-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "half_span" .f32 0x3F19999A#32 ((3 / 5 : ℝ) : EReal)
  ∧ IdealRules.named_const.Statement Cert.KernelIdeal.κ "span" .f32 0x3F99999A#32 ((6 / 5 : ℝ) : EReal)
  ∧ IdealRules.named_const.Statement Cert.KernelIdeal.κ "quarter_span" .f32 0x3E99999A#32 ((3 / 10 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_v78) = v1 c
          ∧ r.2.mem ((c.tc : Thread Cert.ReferenceIdeal.nD Cert.ReferenceIdeal.τ).loc Cert.ReferenceIdeal.main_v45) = v2 c
          ∧ r.2.mem ((c.tc : Thread Cert.ReferenceIdeal.nD Cert.ReferenceIdeal.τ).loc Cert.ReferenceIdeal.main_v76) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x768x16384 : Shape := ⟨3, ![2, 768, 16384]⟩
abbrev S16384x5120 : Shape := ⟨2, ![16384, 5120]⟩
abbrev S256x5120 : Shape := ⟨2, ![256, 5120]⟩
abbrev S1536x16384 : Shape := ⟨2, ![1536, 16384]⟩
abbrev S1x5120 : Shape := ⟨2, ![1, 5120]⟩
abbrev S1536x5120 : Shape := ⟨2, ![1536, 5120]⟩
abbrev S512x256 : Shape := ⟨2, ![512, 256]⟩
abbrev S8x256 : Shape := ⟨2, ![8, 256]⟩
abbrev S1x256 : Shape := ⟨2, ![1, 256]⟩
abbrev S1536x256 : Shape := ⟨2, ![1536, 256]⟩
abbrev S256x1536 : Shape := ⟨2, ![256, 1536]⟩
abbrev S8x1x256 : Shape := ⟨3, ![8, 1, 256]⟩
abbrev S8x64x256 : Shape := ⟨3, ![8, 64, 256]⟩
abbrev S256 : Shape := ⟨1, ![256]⟩
abbrev S1536x512 : Shape := ⟨2, ![1536, 512]⟩
abbrev S256x512 : Shape := ⟨2, ![256, 512]⟩

abbrev nBuf : Space → Nat
  | .hbm => 10
  | .vmem => 19
  | .smem => 0
  | _ => 0

abbrev bufTy : (tb : Table) → Fin (tcTables nBuf tb) → BufTy
  | .hbm, ⟨0, _⟩ => ⟨S2x768x16384, .bf16⟩
  | .hbm, ⟨1, _⟩ => ⟨S16384x5120, .f32⟩
  | .hbm, ⟨2, _⟩ => ⟨S16384x5120, .i8⟩
  | .hbm, ⟨3, _⟩ => ⟨S256x5120, .f32⟩
  | .hbm, ⟨4, _⟩ => ⟨S16384x5120, .f32⟩
  | .hbm, ⟨5, _⟩ => ⟨S1536x16384, .bf16⟩
  | .hbm, ⟨6, _⟩ => ⟨S1x5120, .f32⟩
  | .hbm, ⟨7, _⟩ => ⟨S1x5120, .f32⟩
  | .hbm, ⟨8, _⟩ => ⟨S1536x5120, .bf16⟩
  | .hbm, ⟨9, _⟩ => ⟨S16384x5120, .f32⟩
  | .local _ .vmem, ⟨0, _⟩ => ⟨S1536x16384, .bf16⟩
  | .local _ .vmem, ⟨1, _⟩ => ⟨S512x256, .f32⟩
  | .local _ .vmem, ⟨2, _⟩ => ⟨S512x256, .f32⟩
  | .local _ .vmem, ⟨3, _⟩ => ⟨S512x256, .i8⟩
  | .local _ .vmem, ⟨4, _⟩ => ⟨S512x256, .i8⟩
  | .local _ .vmem, ⟨5, _⟩ => ⟨S8x256, .f32⟩
  | .local _ .vmem, ⟨6, _⟩ => ⟨S8x256, .f32⟩
  | .local _ .vmem, ⟨7, _⟩ => ⟨S512x256, .f32⟩
  | .local _ .vmem, ⟨8, _⟩ => ⟨S512x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S1536x256, .bf16⟩
  | .local _ .vmem, ⟨14, _⟩ => ⟨S1536x256, .bf16⟩
  | .local _ .vmem, ⟨15, _⟩ => ⟨S512x256, .f32⟩
  | .local _ .vmem, ⟨16, _⟩ => ⟨S512x256, .f32⟩
  | .local _ .vmem, ⟨17, _⟩ => ⟨S1536x256, .f32⟩
  | .local _ .vmem, ⟨18, _⟩ => ⟨S256x1536, .bf16⟩
  | _, _ => ⟨S2x768x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨3, ![20, 2, 32], ![false, false, false]⟩

def k0_cond1 (i : grid0.Coords) : BitVec 1 :=
  let arg1 : BitVec 32 := BitVec.ofNat 32 (i 1).val
  let c0_i32 : BitVec 32 := 0#32
  let v8 : BitVec 1 := Scalar.cmpi .eq arg1 c0_i32
  let v9 : BitVec 32 := Scalar.extui v8
  let c0_i32_5 : BitVec 32 := 0#32
  let v10 : BitVec 1 := Scalar.cmpi .ne v9 c0_i32_5
  v10

def k0_mult1 (i : grid0.Coords) : BitVec 32 :=
  let arg2 : BitVec 32 := BitVec.ofNat 32 (i 2).val
  let c512_i32 : BitVec 32 := 512#32
  let v46 : BitVec 32 := Scalar.muli arg2 c512_i32
  v46
def k0_off1 (i : grid0.Coords) : Fin 2 → Nat :=
  let c0_19 : Index := 0#32
  let arg2 : BitVec 32 := BitVec.ofNat 32 (i 2).val
  let c512_i32 : BitVec 32 := 512#32
  let v46 : BitVec 32 := Scalar.muli arg2 c512_i32
  let v47 : BitVec 32 := v46
  let v48 : Index := Scalar.indexCast v47
  ![0, v48.toNat]
def k0_cond5 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_6 : BitVec 32 := 0#32
  let v13 : BitVec 1 := Scalar.cmpi .ne v12 c0_i32_6
  v13

def k0_mult2 (i : grid0.Coords) : BitVec 32 :=
  let arg2 : BitVec 32 := BitVec.ofNat 32 (i 2).val
  let c512_i32 : BitVec 32 := 512#32
  let v20 : BitVec 32 := Scalar.muli arg2 c512_i32
  v20
def k0_off2 (i : grid0.Coords) : Fin 2 → Nat :=
  let c0_10 : Index := 0#32
  let arg2 : BitVec 32 := BitVec.ofNat 32 (i 2).val
  let c512_i32 : BitVec 32 := 512#32
  let v20 : BitVec 32 := Scalar.muli arg2 c512_i32
  let v21 : BitVec 32 := v20
  let v22 : Index := Scalar.indexCast v21
  ![0, v22.toNat]
def k0_cond4 (i : grid0.Coords) : BitVec 1 :=
  let arg2 : BitVec 32 := BitVec.ofNat 32 (i 2).val
  let c31_i32 : BitVec 32 := 31#32
  let v58 : BitVec 1 := Scalar.cmpi .eq arg2 c31_i32
  let v59 : BitVec 32 := Scalar.extui v58
  let c0_i32_25 : BitVec 32 := 0#32
  let v60 : BitVec 1 := Scalar.cmpi .ne v59 c0_i32_25
  v60

def k0_cond2 (i : grid0.Coords) : BitVec 1 :=
  let arg2 : BitVec 32 := BitVec.ofNat 32 (i 2).val
  let c0_i32_21 : BitVec 32 := 0#32
  let v52 : BitVec 1 := Scalar.cmpi .eq arg2 c0_i32_21
  let v53 : BitVec 32 := Scalar.extui v52
  let c0_i32_22 : BitVec 32 := 0#32
  let v54 : BitVec 1 := Scalar.cmpi .ne v53 c0_i32_22
  v54

def k0_cond3 (i : grid0.Coords) : BitVec 1 :=
  let arg2 : BitVec 32 := BitVec.ofNat 32 (i 2).val
  let c0_i32_23 : BitVec 32 := 0#32
  let v55 : BitVec 1 := Scalar.cmpi .sgt arg2 c0_i32_23
  let v56 : BitVec 32 := Scalar.extui v55
  let c0_i32_24 : BitVec 32 := 0#32
  let v57 : BitVec 1 := Scalar.cmpi .ne v56 c0_i32_24
  v57

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg1 c0_i32
  let c31_i32 : BitVec 32 := 31#32
  let v1 : BitVec 32 := Scalar.select v0 arg2 c31_i32
  let c0_i32_0 : BitVec 32 := 0#32
  ![v1.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg1 c0_i32
  let c0_i32_0 : BitVec 32 := 0#32
  let v1 : BitVec 32 := Scalar.select v0 c0_i32_0 arg2
  let c0_i32_1 : BitVec 32 := 0#32
  ![v1.toNat, arg0.toNat]

abbrev stage0_0 : Fin 1 → Memref sig .tc .vmem S1536x16384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x256 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1536x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== KernelIdeal.lean ====
variable {F : FTy → Type} [FloatOps F] [Named F]
def κ : String → Option EReal := fun
  | "half_span" => some ((3 / 5 : ℝ) : EReal)
  | "quarter_span" => some ((3 / 10 : ℝ) : EReal)
  | "span" => some ((6 / 5 : ℝ) : EReal)
  | _ => none
-- ==== ReferenceIdeal.lean ====
abbrev S2x768x16384 : Shape := ⟨3, ![2, 768, 16384]⟩
abbrev S16384x5120 : Shape := ⟨2, ![16384, 5120]⟩
abbrev S256x5120 : Shape := ⟨2, ![256, 5120]⟩
abbrev S1536x16384 : Shape := ⟨2, ![1536, 16384]⟩
abbrev S256x64x5120 : Shape := ⟨3, ![256, 64, 5120]⟩
abbrev S256x1x5120 : Shape := ⟨3, ![256, 1, 5120]⟩
abbrev S_ : Shape := ⟨0, ![]⟩
abbrev S1536x5120 : Shape := ⟨2, ![1536, 5120]⟩
abbrev S5120 : Shape := ⟨1, ![5120]⟩
abbrev S1x5120 : Shape := ⟨2, ![1, 5120]⟩

abbrev nBuf : Space → Nat
  | .hbm => 126
  | .vmem => 0
  | .smem => 0
  | _ => 0

abbrev bufTy : (tb : Table) → Fin (tcTables nBuf tb) → BufTy
  | .hbm, ⟨0, _⟩ => ⟨S2x768x16384, .bf16⟩
  | .hbm, ⟨1, _⟩ => ⟨S16384x5120, .f32⟩
  | .hbm, ⟨2, _⟩ => ⟨S16384x5120, .i8⟩
  | .hbm, ⟨3, _⟩ => ⟨S256x5120, .f32⟩
  | .hbm, ⟨4, _⟩ => ⟨S16384x5120, .f32⟩
  | .hbm, ⟨5, _⟩ => ⟨S1536x16384, .bf16⟩
  | .hbm, ⟨6, _⟩ => ⟨S256x64x5120, .f32⟩
  | .hbm, ⟨7, _⟩ => ⟨S256x64x5120, .i8⟩
  | .hbm, ⟨8, _⟩ => ⟨S256x64x5120, .i32⟩
  | .hbm, ⟨9, _⟩ => ⟨S256x64x5120, .f32⟩
  | .hbm, ⟨10, _⟩ => ⟨S256x64x5120, .f32⟩
  | .hbm, ⟨11, _⟩ => ⟨S256x1x5120, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S256x64x5120, .f32⟩
  | .hbm, ⟨19, _⟩ => ⟨S256x64x5120, .f32⟩
  | .hbm, ⟨20, _⟩ => ⟨S_, .f32⟩
  | .hbm, ⟨21, _⟩ => ⟨S256x64x5120, .f32⟩
  | .hbm, ⟨22, _⟩ => ⟨S256x64x5120, .f32⟩
  | .hbm, ⟨23, _⟩ => ⟨S_, .f32⟩
  | .hbm, ⟨24, _⟩ => ⟨S256x64x5120, .f32⟩
  | .hbm, ⟨25, _⟩ => ⟨S256x64x5120, .f32⟩
  | .hbm, ⟨26, _⟩ => ⟨S256x64x5120, .f32⟩
  | .hbm, ⟨27, _⟩ => ⟨S256x64x5120, .f32⟩
  | .hbm, ⟨28, _⟩ => ⟨S256x64x5120, .f32⟩
  | .hbm, ⟨29, _⟩ => ⟨S256x64x5120, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S256x64x5120, .f32⟩
  | .hbm, ⟨34, _⟩ => ⟨S256x64x5120, .f32⟩
  | .hbm, ⟨35, _⟩ => ⟨S_, .f32⟩
  | .hbm, ⟨36, _⟩ => ⟨S256x64x5120, .f32⟩
  | .hbm, ⟨37, _⟩ => ⟨S256x64x5120, .f32⟩
  | .hbm, ⟨38, _⟩ => ⟨S256x64x5120, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S256x64x5120, .f32⟩
  | .hbm, ⟨43, _⟩ => ⟨S256x64x5120, .f32⟩
  | .hbm, ⟨44, _⟩ => ⟨S_, .f32⟩
  | .hbm, ⟨45, _⟩ => ⟨S256x64x5120, .f32⟩
  | .hbm, ⟨46, _⟩ => ⟨S256x64x5120, .f32⟩
  | .hbm, ⟨47, _⟩ => ⟨S256x64x5120, .f32⟩
  | .hbm, ⟨48, _⟩ => ⟨S256x64x5120, .f32⟩
  | .hbm, ⟨49, _⟩ => ⟨S256x64x5120, .f32⟩
  | .hbm, ⟨50, _⟩ => ⟨S256x64x5120, .bf16⟩
  | .hbm, ⟨51, _⟩ => ⟨S16384x5120, .bf16⟩
  | .hbm, ⟨52, _⟩ => ⟨S1536x5120, .f32⟩
  | .hbm, ⟨53, _⟩ => ⟨S1536x5120, .f32⟩
  | .hbm, ⟨54, _⟩ => ⟨S_, .f32⟩
  | .hbm, ⟨55, _⟩ => ⟨S5120, .f32⟩
  | .hbm, ⟨56, _⟩ => ⟨S_, .f32⟩
  | .hbm, ⟨57, _⟩ => ⟨S5120, .f32⟩
  | .hbm, ⟨58, _⟩ => ⟨S5120, .f32⟩
  | .hbm, ⟨59, _⟩ => ⟨S_, .f32⟩
  | .hbm, ⟨60, _⟩ => ⟨S256x64x5120, .f32⟩
  | .hbm, ⟨61, _⟩ => ⟨S256x64x5120, .f32⟩
  | .hbm, ⟨62, _⟩ => ⟨S_, .f32⟩
  | .hbm, ⟨63, _⟩ => ⟨S256x64x5120, .f32⟩
  | .hbm, ⟨64, _⟩ => ⟨S256x64x5120, .f32⟩
  | .hbm, ⟨65, _⟩ => ⟨S256x64x5120, .f32⟩
  | .hbm, ⟨66, _⟩ => ⟨S_, .f32⟩
  | .hbm, ⟨67, _⟩ => ⟨S256x64x5120, .f32⟩
  | .hbm, ⟨68, _⟩ => ⟨S256x64x5120, .f32⟩
  | .hbm, ⟨69, _⟩ => ⟨S_, .f32⟩
  | .hbm, ⟨70, _⟩ => ⟨S256x64x5120, .f32⟩
  | .hbm, ⟨71, _⟩ => ⟨S256x64x5120, .f32⟩
  | .hbm, ⟨72, _⟩ => ⟨S16384x5120, .f32⟩
  | .hbm, ⟨73, _⟩ => ⟨S_, .f32⟩
  | .hbm, ⟨74, _⟩ => ⟨S5120, .f32⟩
  | .hbm, ⟨75, _⟩ => ⟨S_, .f32⟩
  | .hbm, ⟨76, _⟩ => ⟨S5120, .f32⟩
  | .hbm, ⟨77, _⟩ => ⟨S5120, .f32⟩
  | .hbm, ⟨78, _⟩ => ⟨S1536x5120, .bf16⟩
  | .hbm, ⟨79, _⟩ => ⟨S16384x5120, .f32⟩
  | .hbm, ⟨80, _⟩ => ⟨S256x64x5120, .f32⟩
  | .hbm, ⟨81, _⟩ => ⟨S_, .f32⟩
  | .hbm, ⟨82, _⟩ => ⟨S256x64x5120, .f32⟩
  | .hbm, ⟨83, _⟩ => ⟨S256x64x5120, .i1⟩
  | .hbm, ⟨84, _⟩ => ⟨S_, .f32⟩
  | .hbm, ⟨85, _⟩ => ⟨S256x64x5120, .f32⟩
  | .hbm, ⟨86, _⟩ => ⟨S256x64x5120, .i1⟩
  | .hbm, ⟨87, _⟩ => ⟨S_, .f32⟩
  | .hbm, ⟨88, _⟩ => ⟨S256x64x5120, .f32⟩
  | .hbm, ⟨89, _⟩ => ⟨S256x64x5120, .i1⟩
  | .hbm, ⟨90, _⟩ => ⟨S256x64x5120, .i1⟩
  | .hbm, ⟨91, _⟩ => ⟨S256x64x5120, .f32⟩
  | .hbm, ⟨92, _⟩ => ⟨S256x64x5120, .f32⟩
  | .hbm, ⟨93, _⟩ => ⟨S_, .f32⟩
  | .hbm, ⟨94, _⟩ => ⟨S256x64x5120, .f32⟩
  | .hbm, ⟨95, _⟩ => ⟨S256x64x5120, .f32⟩
  | .hbm, ⟨96, _⟩ => ⟨S256x64x5120, .f32⟩
  | .hbm, ⟨97, _⟩ => ⟨S_, .f32⟩
  | .hbm, ⟨98, _⟩ => ⟨S_, .f32⟩
  | .hbm, ⟨99, _⟩ => ⟨S256x64x5120, .f32⟩
  | .hbm, ⟨100, _⟩ => ⟨S256x64x5120, .f32⟩
  | .hbm, ⟨101, _⟩ => ⟨S256x64x5120, .f32⟩
  | .hbm, ⟨102, _⟩ => ⟨S_, .f32⟩
  | .hbm, ⟨103, _⟩ => ⟨S256x64x5120, .f32⟩
  | .hbm, ⟨104, _⟩ => ⟨S256x64x5120, .f32⟩
  | .hbm, ⟨105, _⟩ => ⟨S_, .f32⟩
  | .hbm, ⟨106, _⟩ => ⟨S256x64x5120, .f32⟩
  | .hbm, ⟨107, _⟩ => ⟨S256x64x5120, .f32⟩
  | .hbm, ⟨108, _⟩ => ⟨S256x64x5120, .f32⟩
  | .hbm, ⟨109, _⟩ => ⟨S_, .f32⟩
  | .hbm, ⟨110, _⟩ => ⟨S256x64x5120, .f32⟩
  | .hbm, ⟨111, _⟩ => ⟨S256x64x5120, .f32⟩
  | .hbm, ⟨112, _⟩ => ⟨S256x64x5120, .f32⟩
  | .hbm, ⟨113, _⟩ => ⟨S256x64x5120, .f32⟩
  | .hbm, ⟨114, _⟩ => ⟨S_, .f32⟩
  | .hbm, ⟨115, _⟩ => ⟨S_, .f32⟩
  | .hbm, ⟨116, _⟩ => ⟨S256x64x5120, .f32⟩
  | .hbm, ⟨117, _⟩ => ⟨S256x64x5120, .f32⟩
  | .hbm, ⟨118, _⟩ => ⟨S256x64x5120, .f32⟩
  | .hbm, ⟨119, _⟩ => ⟨S256x64x5120, .f32⟩
  | .hbm, ⟨120, _⟩ => ⟨S256x64x5120, .f32⟩
  | .hbm, ⟨121, _⟩ => ⟨S256x64x5120, .f32⟩
  | .hbm, ⟨122, _⟩ => ⟨S256x64x5120, .f32⟩
  | .hbm, ⟨123, _⟩ => ⟨S16384x5120, .f32⟩
  | .hbm, ⟨124, _⟩ => ⟨S1x5120, .f32⟩
  | .hbm, ⟨125, _⟩ => ⟨S1x5120, .f32⟩
  | _, _ => ⟨S2x768x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_cst_6 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_v19 : Ref sig .tc := ⟨.hbm, 37, rfl⟩
abbrev main_v20 : Ref sig .tc := ⟨.hbm, 38, rfl⟩
abbrev main_cst_7 : Ref sig .tc := ⟨.hbm, 39, rfl⟩
abbrev main_cst_8 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst_9 : Ref sig .tc := ⟨.hbm, 54, rfl⟩
abbrev main_v29 : Ref sig .tc := ⟨.hbm, 55, rfl⟩
abbrev main_cst_10 : Ref sig .tc := ⟨.hbm, 56, rfl⟩
abbrev main_v30 : Ref sig .tc := ⟨.hbm, 57, rfl⟩
abbrev main_v31 : Ref sig .tc := ⟨.hbm, 58, rfl⟩
abbrev main_cst_11 : Ref sig .tc := ⟨.hbm, 59, rfl⟩
abbrev main_v32 : Ref sig .tc := ⟨.hbm, 60, rfl⟩
abbrev main_v33 : Ref sig .tc := ⟨.hbm, 61, rfl⟩
abbrev main_cst_12 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_cst_13 : Ref sig .tc := ⟨.hbm, 66, rfl⟩
abbrev main_v37 : Ref sig .tc := ⟨.hbm, 67, rfl⟩
abbrev main_v38 : Ref sig .tc := ⟨.hbm, 68, rfl⟩
abbrev main_cst_14 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_cst_15 : Ref sig .tc := ⟨.hbm, 73, rfl⟩
abbrev main_v42 : Ref sig .tc := ⟨.hbm, 74, rfl⟩
abbrev main_cst_16 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_cst_17 : Ref sig .tc := ⟨.hbm, 81, rfl⟩
abbrev main_v48 : Ref sig .tc := ⟨.hbm, 82, rfl⟩
abbrev main_v49 : Ref sig .tc := ⟨.hbm, 83, rfl⟩
abbrev main_cst_18 : Ref sig .tc := ⟨.hbm, 84, rfl⟩
abbrev main_v50 : Ref sig .tc := ⟨.hbm, 85, rfl⟩
abbrev main_v51 : Ref sig .tc := ⟨.hbm, 86, rfl⟩
abbrev main_cst_19 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_cst_20 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_cst_21 : Ref sig .tc := ⟨.hbm, 97, rfl⟩
abbrev main_call2_v0 : Ref sig .tc := ⟨.hbm, 98, rfl⟩
abbrev main_call2_v1 : Ref sig .tc := ⟨.hbm, 99, rfl⟩
abbrev main_v60 : Ref sig .tc := ⟨.hbm, 100, rfl⟩
abbrev main_v61 : Ref sig .tc := ⟨.hbm, 101, rfl⟩
abbrev main_cst_22 : Ref sig .tc := ⟨.hbm, 102, rfl⟩
abbrev main_v62 : Ref sig .tc := ⟨.hbm, 103, rfl⟩
abbrev main_v63 : Ref sig .tc := ⟨.hbm, 104, rfl⟩
abbrev main_cst_23 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_cst_24 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_cst_25 : Ref sig .tc := ⟨.hbm, 114, rfl⟩
abbrev main_cst_26 : Ref sig .tc := ⟨.hbm, 115, rfl⟩
abbrev main_call3_v0 : Ref sig .tc := ⟨.hbm, 116, rfl⟩
abbrev main_call3_v1 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩

abbrev nD : Nat := 1
abbrev τ : Topo := Topo.v7x

variable {F : FTy → Type} [FloatOps F]
-- ==== Proof.KernelCases.lean ====
/- When each branch of the kernel's body is taken, and the buffers it is handed. -/
module

public import proofs.«01_k».proof.Proof.Gen.Kernel.Frame
public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Step

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the points whose coordinates have i1 = 0 — by arithmetic of the point. -/
theorem hcond0_0 : ∀ t : Fin cfg0.N, cond0_0 (grid0.coords t) ↔ t.val / 32 % 2 = 0 :=
  (fun t => by
    have ht : t.val < 1280 := Nat.lt_of_lt_of_eq t.isLt N_0
    have e0 : (grid0.coords t 0).val = t.val / 64 % 20 := Pipeline.Grid.coords_val t 0 (by decide) rfl
    have e1 : (grid0.coords t 1).val = t.val / 32 % 2 := Pipeline.Grid.coords_val t 1 (by decide) rfl
    have e2 : (grid0.coords t 2).val = t.val / 1 % 32 := Pipeline.Grid.coords_val t 2 (by decide) rfl
    simp only [cond0_0, k0_cond1, e0, e1, e2]
    word_cmp
   : ∀ t : Fin grid0.N, cond0_0 (grid0.coords t) ↔ t.val / 32 % 2 = 0)

/-- The condition of the body's `scf.if` 1 (`k0_h2`), from the grid coordinates (the skeleton's scalar
    chain substituted). -/
abbrev cond0_1 (i : grid0.Coords) : Prop := k0_cond2 i = 1#1
/-- It holds at the points ≡ 0 (mod 32) — by arithmetic of the point. -/
theorem hcond0_1 : ∀ t : Fin cfg0.N, cond0_1 (grid0.coords t) ↔ t.val % 32 = 0 :=
  (fun t => by
    have ht : t.val < 1280 := Nat.lt_of_lt_of_eq t.isLt N_0
    have e0 : (grid0.coords t 0).val = t.val / 64 % 20 := Pipeline.Grid.coords_val t 0 (by decide) rfl
    have e1 : (grid0.coords t 1).val = t.val / 32 % 2 := Pipeline.Grid.coords_val t 1 (by decide) rfl
    have e2 : (grid0.coords t 2).val = t.val / 1 % 32 := Pipeline.Grid.coords_val t 2 (by decide) rfl
    simp only [cond0_1, k0_cond2, e0, e1, e2]
    word_cmp
   : ∀ t : Fin grid0.N, cond0_1 (grid0.coords t) ↔ t.val % 32 = 0)

/-- The condition of the body's `scf.if` 2 (`k0_h3`), from the grid coordinates (the skeleton's scalar
    chain substituted). -/
abbrev cond0_2 (i : grid0.Coords) : Prop := k0_cond3 i = 1#1
/-- It holds at the points whose coordinates have 1 ≤ i2 — decided over the grid. -/
theorem hcond0_2 : ∀ t : Fin cfg0.N, cond0_2 (grid0.coords t) ↔ 1 ≤ t.val % 32 :=
  (by decide +kernel : ∀ t : Fin grid0.N, cond0_2 (grid0.coords t) ↔ 1 ≤ t.val % 32)

/-- The condition of the body's `scf.if` 3 (`k0_h4`), from the grid coordinates (the skeleton's scalar
    chain substituted). -/
abbrev cond0_3 (i : grid0.Coords) : Prop := k0_cond4 i = 1#1
/-- It holds at the points ≡ 31 (mod 32) — by arithmetic of the point. -/
theorem hcond0_3 : ∀ t : Fin cfg0.N, cond0_3 (grid0.coords t) ↔ t.val % 32 = 31 :=
  (fun t => by
    have ht : t.val < 1280 := Nat.lt_of_lt_of_eq t.isLt N_0
    have e0 : (grid0.coords t 0).val = t.val / 64 % 20 := Pipeline.Grid.coords_val t 0 (by decide) rfl
    have e1 : (grid0.coords t 1).val = t.val / 32 % 2 := Pipeline.Grid.coords_val t 1 (by decide) rfl
    have e2 : (grid0.coords t 2).val = t.val / 1 % 32 := Pipeline.Grid.coords_val t 2 (by decide) rfl
    simp only [cond0_3, k0_cond4, e0, e1, e2]
    word_cmp
   : ∀ t : Fin grid0.N, cond0_3 (grid0.coords t) ↔ t.val % 32 = 31)

/-- The condition of the body's `scf.if` 4 (`k0_h5`), from the grid coordinates (the skeleton's scalar
    chain substituted). -/
abbrev cond0_4 (i : grid0.Coords) : Prop := k0_cond5 i = 1#1
/-- It holds at the points whose coordinates have i1 = 1 — by arithmetic of the point. -/
theorem hcond0_4 : ∀ t : Fin cfg0.N, cond0_4 (grid0.coords t) ↔ t.val / 32 % 2 = 1 :=
  (fun t => by
    have ht : t.val < 1280 := Nat.lt_of_lt_of_eq t.isLt N_0
    have e0 : (grid0.coords t 0).val = t.val / 64 % 20 := Pipeline.Grid.coords_val t 0 (by decide) rfl
    have e1 : (grid0.coords t 1).val = t.val / 32 % 2 := Pipeline.Grid.coords_val t 1 (by decide) rfl
    have e2 : (grid0.coords t 2).val = t.val / 1 % 32 := Pipeline.Grid.coords_val t 2 (by decide) rfl
    simp only [cond0_4, k0_cond5, e0, e1, e2]
    word_cmp
   : ∀ t : Fin grid0.N, cond0_4 (grid0.coords t) ↔ t.val / 32 % 2 = 1)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1536x16384 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x256 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1536x256 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x256 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S1536x256 .f32 := Memref.whole cc0_scratch0
abbrev scM0_1 : Memref sig .tc .vmem S256x1536 .bf16 := Memref.whole cc0_scratch1
/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## All the body holds at a point -/

/-- The eleven buffers of the body: the arguments' at named contents, the results' and the kernel's own at anything. -/
def Held (c : Dev nD) (arg3 : Memref sig .tc .vmem S1536x16384 .bf16) (arg4 : Memref sig .tc .vmem S512x256 .f32)
    (arg5 : Memref sig .tc .vmem S512x256 .i8) (arg6 : Memref sig .tc .vmem S8x256 .f32) (arg7 : Memref sig .tc .vmem S512x256 .f32)
    (arg8 arg9 : Memref sig .tc .vmem S1x256 .f32) (arg10 : Memref sig .tc .vmem S1536x256 .bf16)
    (arg11 : Memref sig .tc .vmem S512x256 .f32) (arg12 : Memref sig .tc .vmem S1536x256 .f32) (arg13 : Memref sig .tc .vmem S256x1536 .bf16)
    (x : Vec F S1536x16384 .bf16) (w : Vec F S512x256 .f32) (wf : Vec F S512x256 .i8) (s : Vec F S8x256 .f32) (v : Vec F S512x256 .f32) : sProp 𝕄 :=
  iprop(owns (c : Thread nD τ) arg3 fullShare x ∗ owns (c : Thread nD τ) arg4 fullShare w ∗ owns (c : Thread nD τ) arg5 fullShare wf
    ∗ owns (c : Thread nD τ) arg6 fullShare s ∗ owns (c : Thread nD τ) arg7 fullShare v ∗ (∃ d, owns (c : Thread nD τ) arg8 fullShare d)
    ∗ (∃ d, owns (c : Thread nD τ) arg9 fullShare d) ∗ (∃ d, owns (c : Thread nD τ) arg10 fullShare d) ∗ (∃ d, owns (c : Thread nD τ) arg11 fullShare d)
    ∗ (∃ d, owns (c : Thread nD τ) arg12 fullShare d) ∗ (∃ d, owns (c : Thread nD τ) arg13 fullShare d))

end Cert.Kernel.Step

end
-- ==== Proof.KernelRuns.lean ====
/- The kernel's body run in each of its four cases: it ends, its arguments' blocks as they were. -/
module

public import proofs.«01_k».proof.Proof.KernelCases

@[expose] public section

set_option maxRecDepth 16384

noncomputable section

namespace Cert.Kernel.Step

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The first point of a first pass. -/
theorem runA (c : Dev nD) (i : grid0.Coords) (arg3 : Memref sig .tc .vmem S1536x16384 .bf16) (harg3 : arg3.IsWhole)
    (arg4 : Memref sig .tc .vmem S512x256 .f32) (harg4 : arg4.IsWhole) (arg5 : Memref sig .tc .vmem S512x256 .i8) (harg5 : arg5.IsWhole)
    (arg6 : Memref sig .tc .vmem S8x256 .f32) (harg6 : arg6.IsWhole) (arg7 : Memref sig .tc .vmem S512x256 .f32) (harg7 : arg7.IsWhole)
    (arg8 : Memref sig .tc .vmem S1x256 .f32) (harg8 : arg8.IsWhole) (arg9 : Memref sig .tc .vmem S1x256 .f32) (harg9 : arg9.IsWhole)
    (arg10 : Memref sig .tc .vmem S1536x256 .bf16) (harg10 : arg10.IsWhole) (arg11 : Memref sig .tc .vmem S512x256 .f32) (harg11 : arg11.IsWhole)
    (arg12 : Memref sig .tc .vmem S1536x256 .f32) (harg12 : arg12.IsWhole) (arg13 : Memref sig .tc .vmem S256x1536 .bf16) (harg13 : arg13.IsWhole)
    (hc0 : cond0_0 i) (hc1 : cond0_1 i) (hc2 : ¬cond0_2 i) (hc3 : ¬cond0_3 i) (hc4 : ¬cond0_4 i)
    (x : Vec F S1536x16384 .bf16) (w : Vec F S512x256 .f32) (wf : Vec F S512x256 .i8) (s : Vec F S8x256 .f32) (v : Vec F S512x256 .f32)
    (E : Set ℕ) (K : PUnit → sProp 𝕄) :
    iprop(Held c arg3 arg4 arg5 arg6 arg7 arg8 arg9 arg10 arg11 arg12 arg13 x w wf s v ∗ (Held c arg3 arg4 arg5 arg6 arg7 arg8 arg9 arg10 arg11 arg12 arg13 x w wf s v -∗ K ⟨⟩))
      ⊢ wp frame (wpE (defs₀ (F := F)) Variants.none c none) E (cc0_adaround i arg3 harg3 arg4 harg4 arg5 harg5 arg6 harg6 arg7 harg7 arg8 harg8 arg9 harg9 arg10 harg10 arg11 harg11 arg12 harg12 arg13 harg13) K := by
  simp only [cc0_adaround_eq_skeleton]; unfold cc0_adaround_skel
  simp only [k0_part1_eq_skeleton]
  unfold Held owns
  iintro ⟨⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩⟩, Hk⟩
  obtain rfl := harg3.eq_unread hf0; obtain rfl := harg4.eq_unread hf1; obtain rfl := harg5.eq_unread hf2
  obtain rfl := harg6.eq_unread hf3; obtain rfl := harg7.eq_unread hf4
  sl_exec (disch := first | sl_exact hc0 | sl_exact hc1 | sl_exact hc2 | sl_exact hc3 | sl_exact hc4)
  sl_step
  iapply Hk
  isplitl [H0]
  · iexists _; isplitr; swap; · iexact H0
    ipureintro; exact harg3.read_unread _
  isplitl [H1]
  · iexists _; isplitr; swap; · iexact H1
    ipureintro; exact harg4.read_unread _
  isplitl [H2]
  · iexists _; isplitr; swap; · iexact H2
    ipureintro; exact harg5.read_unread _
  isplitl [H3]
  · iexists _; isplitr; swap; · iexact H3
    ipureintro; exact harg6.read_unread _
  isplitl [H4]
  · iexists _; isplitr; swap; · iexact H4
    ipureintro; exact harg7.read_unread _
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  iexists _, _; isplitr; swap; · iexact H10
  ipureintro; rfl

set_option maxHeartbeats 2000000 in
/-- A middle point of a first pass. -/
theorem runB (c : Dev nD) (i : grid0.Coords) (arg3 : Memref sig .tc .vmem S1536x16384 .bf16) (harg3 : arg3.IsWhole)
    (arg4 : Memref sig .tc .vmem S512x256 .f32) (harg4 : arg4.IsWhole) (arg5 : Memref sig .tc .vmem S512x256 .i8) (harg5 : arg5.IsWhole)
    (arg6 : Memref sig .tc .vmem S8x256 .f32) (harg6 : arg6.IsWhole) (arg7 : Memref sig .tc .vmem S512x256 .f32) (harg7 : arg7.IsWhole)
    (arg8 : Memref sig .tc .vmem S1x256 .f32) (harg8 : arg8.IsWhole) (arg9 : Memref sig .tc .vmem S1x256 .f32) (harg9 : arg9.IsWhole)
    (arg10 : Memref sig .tc .vmem S1536x256 .bf16) (harg10 : arg10.IsWhole) (arg11 : Memref sig .tc .vmem S512x256 .f32) (harg11 : arg11.IsWhole)
    (arg12 : Memref sig .tc .vmem S1536x256 .f32) (harg12 : arg12.IsWhole) (arg13 : Memref sig .tc .vmem S256x1536 .bf16) (harg13 : arg13.IsWhole)
    (hc0 : cond0_0 i) (hc1 : ¬cond0_1 i) (hc2 : cond0_2 i) (hc3 : ¬cond0_3 i) (hc4 : ¬cond0_4 i)
    (x : Vec F S1536x16384 .bf16) (w : Vec F S512x256 .f32) (wf : Vec F S512x256 .i8) (s : Vec F S8x256 .f32) (v : Vec F S512x256 .f32)
    (E : Set ℕ) (K : PUnit → sProp 𝕄) :
    iprop(Held c arg3 arg4 arg5 arg6 arg7 arg8 arg9 arg10 arg11 arg12 arg13 x w wf s v ∗ (Held c arg3 arg4 arg5 arg6 arg7 arg8 arg9 arg10 arg11 arg12 arg13 x w wf s v -∗ K ⟨⟩))
      ⊢ wp frame (wpE (defs₀ (F := F)) Variants.none c none) E (cc0_adaround i arg3 harg3 arg4 harg4 arg5 harg5 arg6 harg6 arg7 harg7 arg8 harg8 arg9 harg9 arg10 harg10 arg11 harg11 arg12 harg12 arg13 harg13) K := by
  simp only [cc0_adaround_eq_skeleton]; unfold cc0_adaround_skel
  simp only [k0_part1_eq_skeleton]
  unfold Held owns
  iintro ⟨⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩⟩, Hk⟩
  obtain rfl := harg3.eq_unread hf0; obtain rfl := harg4.eq_unread hf1; obtain rfl := harg5.eq_unread hf2
  obtain rfl := harg6.eq_unread hf3; obtain rfl := harg7.eq_unread hf4
  sl_exec (disch := first | sl_exact hc0 | sl_exact hc1 | sl_exact hc2 | sl_exact hc3 | sl_exact hc4)
  sl_step
  iapply Hk
  isplitl [H0]
  · iexists _; isplitr; swap; · iexact H0
    ipureintro; exact harg3.read_unread _
  isplitl [H1]
  · iexists _; isplitr; swap; · iexact H1
    ipureintro; exact harg4.read_unread _
  isplitl [H2]
  · iexists _; isplitr; swap; · iexact H2
    ipureintro; exact harg5.read_unread _
  isplitl [H3]
  · iexists _; isplitr; swap; · iexact H3
    ipureintro; exact harg6.read_unread _
  isplitl [H4]
  · iexists _; isplitr; swap; · iexact H4
    ipureintro; exact harg7.read_unread _
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  iexists _, _; isplitr; swap; · iexact H10
  ipureintro; rfl

set_option maxHeartbeats 2000000 in
/-- The last point of a first pass. -/
theorem runC (c : Dev nD) (i : grid0.Coords) (arg3 : Memref sig .tc .vmem S1536x16384 .bf16) (harg3 : arg3.IsWhole)
    (arg4 : Memref sig .tc .vmem S512x256 .f32) (harg4 : arg4.IsWhole) (arg5 : Memref sig .tc .vmem S512x256 .i8) (harg5 : arg5.IsWhole)
    (arg6 : Memref sig .tc .vmem S8x256 .f32) (harg6 : arg6.IsWhole) (arg7 : Memref sig .tc .vmem S512x256 .f32) (harg7 : arg7.IsWhole)
    (arg8 : Memref sig .tc .vmem S1x256 .f32) (harg8 : arg8.IsWhole) (arg9 : Memref sig .tc .vmem S1x256 .f32) (harg9 : arg9.IsWhole)
    (arg10 : Memref sig .tc .vmem S1536x256 .bf16) (harg10 : arg10.IsWhole) (arg11 : Memref sig .tc .vmem S512x256 .f32) (harg11 : arg11.IsWhole)
    (arg12 : Memref sig .tc .vmem S1536x256 .f32) (harg12 : arg12.IsWhole) (arg13 : Memref sig .tc .vmem S256x1536 .bf16) (harg13 : arg13.IsWhole)
    (hc0 : cond0_0 i) (hc1 : ¬cond0_1 i) (hc2 : cond0_2 i) (hc3 : cond0_3 i) (hc4 : ¬cond0_4 i)
    (x : Vec F S1536x16384 .bf16) (w : Vec F S512x256 .f32) (wf : Vec F S512x256 .i8) (s : Vec F S8x256 .f32) (v : Vec F S512x256 .f32)
    (E : Set ℕ) (K : PUnit → sProp 𝕄) :
    iprop(Held c arg3 arg4 arg5 arg6 arg7 arg8 arg9 arg10 arg11 arg12 arg13 x w wf s v ∗ (Held c arg3 arg4 arg5 arg6 arg7 arg8 arg9 arg10 arg11 arg12 arg13 x w wf s v -∗ K ⟨⟩))
      ⊢ wp frame (wpE (defs₀ (F := F)) Variants.none c none) E (cc0_adaround i arg3 harg3 arg4 harg4 arg5 harg5 arg6 harg6 arg7 harg7 arg8 harg8 arg9 harg9 arg10 harg10 arg11 harg11 arg12 harg12 arg13 harg13) K := by
  simp only [cc0_adaround_eq_skeleton]; unfold cc0_adaround_skel
  simp only [k0_part1_eq_skeleton]
  unfold Held owns
  iintro ⟨⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩⟩, Hk⟩
  obtain rfl := harg3.eq_unread hf0; obtain rfl := harg4.eq_unread hf1; obtain rfl := harg5.eq_unread hf2
  obtain rfl := harg6.eq_unread hf3; obtain rfl := harg7.eq_unread hf4
  sl_exec (disch := first | sl_exact hc0 | sl_exact hc1 | sl_exact hc2 | sl_exact hc3 | sl_exact hc4)
  sl_step
  iapply Hk
  isplitl [H0]
  · iexists _; isplitr; swap; · iexact H0
    ipureintro; exact harg3.read_unread _
  isplitl [H1]
  · iexists _; isplitr; swap; · iexact H1
    ipureintro; exact harg4.read_unread _
  isplitl [H2]
  · iexists _; isplitr; swap; · iexact H2
    ipureintro; exact harg5.read_unread _
  isplitl [H3]
  · iexists _; isplitr; swap; · iexact H3
    ipureintro; exact harg6.read_unread _
  isplitl [H4]
  · iexists _; isplitr; swap; · iexact H4
    ipureintro; exact harg7.read_unread _
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  iexists _, _; isplitr; swap; · iexact H10
  ipureintro; rfl

set_option maxHeartbeats 2000000 in
/-- A point of a second pass. -/
theorem runD (c : Dev nD) (i : grid0.Coords) (arg3 : Memref sig .tc .vmem S1536x16384 .bf16) (harg3 : arg3.IsWhole)
    (arg4 : Memref sig .tc .vmem S512x256 .f32) (harg4 : arg4.IsWhole) (arg5 : Memref sig .tc .vmem S512x256 .i8) (harg5 : arg5.IsWhole)
    (arg6 : Memref sig .tc .vmem S8x256 .f32) (harg6 : arg6.IsWhole) (arg7 : Memref sig .tc .vmem S512x256 .f32) (harg7 : arg7.IsWhole)
    (arg8 : Memref sig .tc .vmem S1x256 .f32) (harg8 : arg8.IsWhole) (arg9 : Memref sig .tc .vmem S1x256 .f32) (harg9 : arg9.IsWhole)
    (arg10 : Memref sig .tc .vmem S1536x256 .bf16) (harg10 : arg10.IsWhole) (arg11 : Memref sig .tc .vmem S512x256 .f32) (harg11 : arg11.IsWhole)
    (arg12 : Memref sig .tc .vmem S1536x256 .f32) (harg12 : arg12.IsWhole) (arg13 : Memref sig .tc .vmem S256x1536 .bf16) (harg13 : arg13.IsWhole)
    (hc0 : ¬cond0_0 i) (hc4 : cond0_4 i)
    (x : Vec F S1536x16384 .bf16) (w : Vec F S512x256 .f32) (wf : Vec F S512x256 .i8) (s : Vec F S8x256 .f32) (v : Vec F S512x256 .f32)
    (E : Set ℕ) (K : PUnit → sProp 𝕄) :
    iprop(Held c arg3 arg4 arg5 arg6 arg7 arg8 arg9 arg10 arg11 arg12 arg13 x w wf s v ∗ (Held c arg3 arg4 arg5 arg6 arg7 arg8 arg9 arg10 arg11 arg12 arg13 x w wf s v -∗ K ⟨⟩))
      ⊢ wp frame (wpE (defs₀ (F := F)) Variants.none c none) E (cc0_adaround i arg3 harg3 arg4 harg4 arg5 harg5 arg6 harg6 arg7 harg7 arg8 harg8 arg9 harg9 arg10 harg10 arg11 harg11 arg12 harg12 arg13 harg13) K := by
  simp only [cc0_adaround_eq_skeleton]; unfold cc0_adaround_skel
  simp only [k0_part2_eq_skeleton]
  unfold Held owns
  iintro ⟨⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩⟩, Hk⟩
  obtain rfl := harg3.eq_unread hf0; obtain rfl := harg4.eq_unread hf1; obtain rfl := harg5.eq_unread hf2
  obtain rfl := harg6.eq_unread hf3; obtain rfl := harg7.eq_unread hf4
  sl_exec (disch := first | sl_exact hc0 | sl_exact hc4)
  sl_step
  iapply Hk
  isplitl [H0]
  · iexists _; isplitr; swap; · iexact H0
    ipureintro; exact harg3.read_unread _
  isplitl [H1]
  · iexists _; isplitr; swap; · iexact H1
    ipureintro; exact harg4.read_unread _
  isplitl [H2]
  · iexists _; isplitr; swap; · iexact H2
    ipureintro; exact harg5.read_unread _
  isplitl [H3]
  · iexists _; isplitr; swap; · iexact H3
    ipureintro; exact harg6.read_unread _
  isplitl [H4]
  · iexists _; isplitr; swap; · iexact H4
    ipureintro; exact harg7.read_unread _
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  iexists _, _; isplitr; swap; · iexact H10
  ipureintro; rfl

end Cert.Kernel.Step

end
-- ==== Proof.KernelFrame.lean ====
/- The frame of the kernel as compiled: it ends on every run, its arguments unchanged, every counter at zero. Nothing is said
   of its results. -/
module

public import proofs.«01_k».proof.Proof.KernelRuns
public import Idealize.ShloMosaic.Lib.Claim

@[expose] public section

set_option maxRecDepth 16384

noncomputable section

namespace Cert.Kernel.Step

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (V_main_arg0 m c),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c))⟩) h

/-- The results' windows: nothing is said of what the kernel leaves in them. -/
def forgets0 : Fin 9 → Bool := fun w => w.val == 5 || w.val == 6 || w.val == 7 || w.val == 8

/-- The proof data: the arrays as the region finds them, each argument's buffer at its block, the rest at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
  Φ _ := Pipeline.ΦA spec0 c
  q _ := fullShare
  owed _ := 0

/-- The proof data's arrays are those the region finds. -/
theorem A_eq (c : Dev nD) (w : Fin cfg0.W) : (dats m 0 c).A w = V m c (Pipeline.arrRef spec0 w) := by
  dsimp only [dats]

/-! ## Each argument's buffer holds its block, before a point and after -/

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem leaves_0 (c : Dev nD) (t : Fin cfg0.N) : (dats m 0 c).leavesExact 0 t = owns (c : Thread nD τ) (ms0_0 t) fullShare (iblk m c 0 t) := by
  unfold Dat.leavesExact; rw [liveAt0_0 t, after_0]
theorem leaves_1 (c : Dev nD) (t : Fin cfg0.N) : (dats m 0 c).leavesExact 1 t = owns (c : Thread nD τ) (ms0_1 t) fullShare (iblk m c 1 t) := by
  unfold Dat.leavesExact; rw [liveAt0_1 t, after_1]
theorem leaves_2 (c : Dev nD) (t : Fin cfg0.N) : (dats m 0 c).leavesExact 2 t = owns (c : Thread nD τ) (ms0_2 t) fullShare (iblk m c 2 t) := by
  unfold Dat.leavesExact; rw [liveAt0_2 t, after_2]
theorem leaves_3 (c : Dev nD) (t : Fin cfg0.N) : (dats m 0 c).leavesExact 3 t = owns (c : Thread nD τ) (ms0_3 t) fullShare (iblk m c 3 t) := by
  unfold Dat.leavesExact; rw [liveAt0_3 t, after_3]
theorem leaves_4 (c : Dev nD) (t : Fin cfg0.N) : (dats m 0 c).leavesExact 4 t = owns (c : Thread nD τ) (ms0_4 t) fullShare (iblk m c 4 t) := by
  unfold Dat.leavesExact; rw [liveAt0_4 t, after_4]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d))

/-- The body's run at any point: the point is one of the four cases. -/
theorem run_point (c : Dev nD) (t : Fin cfg0.N) (K : PUnit → sProp 𝕄) :
    iprop(Held c (ms0_0 t) (ms0_1 t) (ms0_2 t) (ms0_3 t) (ms0_4 t) (ms0_5 t) (ms0_6 t) (ms0_7 t) (ms0_8 t) scM0_0 scM0_1 (iblk m c 0 t) (iblk m c 1 t) (iblk m c 2 t) (iblk m c 3 t) (iblk m c 4 t) ∗ (Held c (ms0_0 t) (ms0_1 t) (ms0_2 t) (ms0_3 t) (ms0_4 t) (ms0_5 t) (ms0_6 t) (ms0_7 t) (ms0_8 t) scM0_0 scM0_1 (iblk m c 0 t) (iblk m c 1 t) (iblk m c 2 t) (iblk m c 3 t) (iblk m c 4 t) -∗ K ⟨⟩))
      ⊢ wp frame (wpE (defs₀ (F := F)) Variants.none c none) Set.univ (bodyAt0 t) K := by
  have hN : t.val < 1280 := lt_of_lt_of_eq t.isLt (show cfg0.N = 1280 from N_0)
  have c0 := hcond0_0 t; have c1 := hcond0_1 t; have c2 := hcond0_2 t; have c3 := hcond0_3 t; have c4 := hcond0_4 t
  by_cases h0 : t.val % 64 = 0
  · exact runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _)
      (c0.mpr (by omega)) (c1.mpr (by omega)) (fun h => by have := c2.mp h; omega) (fun h => by have := c3.mp h; omega)
      (fun h => by have := c4.mp h; omega) _ _ _ _ _ Set.univ K
  by_cases h1 : t.val % 64 < 31
  · exact runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _)
      (c0.mpr (by omega)) (fun h => by have := c1.mp h; omega) (c2.mpr (by omega)) (fun h => by have := c3.mp h; omega)
      (fun h => by have := c4.mp h; omega) _ _ _ _ _ Set.univ K
  by_cases h2 : t.val % 64 = 31
  · exact runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _)
      (c0.mpr (by omega)) (fun h => by have := c1.mp h; omega) (c2.mpr (by omega)) (c3.mpr (by omega))
      (fun h => by have := c4.mp h; omega) _ _ _ _ _ Set.univ K
  exact runD c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _)
    (fun h => by have := c0.mp h; omega) (c4.mpr (by omega)) _ _ _ _ _ Set.univ K

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before_0, before_1, before_2, before_3, before_4, leaves_0, leaves_1, leaves_2, leaves_3, leaves_4]
  rw [show (dats m 0 c).owesAt () t.succ = (dats m 0 c).owesAt () t.castSucc from rfl,
    show (dats m 0 c).Φ t.succ = Pipeline.ΦA spec0 c from rfl, show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, H5, H6, H7, H8⟩
  iapply (run_point m c t _)
  unfold Held
  isplitl [H0 H1 H2 H3 H4 H5 H6 H7 H8 HS0 HS1]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    iexact HS1
  iintro ⟨H0, H1, H2, H3, H4, H5, H6, H7, H8, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body the pipeline calls at a point is the kernel's body on the point's buffers. -/
theorem defs₀_row (t : Fin cfg0.N) : defs₀ (F := F) .tc cfg0.body (cfg0.bodyArgs t (cfg0.slots t)) = bodyAt0 t := by
  unfold defs₀; rw [Defs.onTc_tc]

/-- What the pipeline asks of the body holds at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- Every execution ends, the arguments' arrays as the region found them, every counter at zero. -/
theorem run_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (fun c => (dats m 0 c).toRForget forgets0) (A_eq m) ((θ_run defs _ _).mono (fun _ h => h.1) (run_quiescent m ρ)))
    ((θ_run defs _ _).mono (fun _ h => h.2) (run_quiescent m ρ))

end Cert.Kernel.Step

end
-- ==== Proof.Cases.lean ====
/- What the proof of the idealized kernel is stated over: when each branch of the body is taken, the buffers the body is
   handed, and the columns of `x` it reads at a point. -/
module

public import proofs.«01_k».proof.Proof.Gen.KernelIdeal.Frame
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Step

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the points whose coordinates have i1 = 0 — by arithmetic of the point. -/
theorem hcond0_0 : ∀ t : Fin cfg0.N, cond0_0 (grid0.coords t) ↔ t.val / 32 % 2 = 0 :=
  (fun t => by
    have ht : t.val < 1280 := Nat.lt_of_lt_of_eq t.isLt N_0
    have e0 : (grid0.coords t 0).val = t.val / 64 % 20 := Pipeline.Grid.coords_val t 0 (by decide) rfl
    have e1 : (grid0.coords t 1).val = t.val / 32 % 2 := Pipeline.Grid.coords_val t 1 (by decide) rfl
    have e2 : (grid0.coords t 2).val = t.val / 1 % 32 := Pipeline.Grid.coords_val t 2 (by decide) rfl
    simp only [cond0_0, k0_cond1, e0, e1, e2]
    word_cmp
   : ∀ t : Fin grid0.N, cond0_0 (grid0.coords t) ↔ t.val / 32 % 2 = 0)

/-- The condition of the body's `scf.if` 1 (`k0_h2`), from the grid coordinates (the skeleton's scalar
    chain substituted). -/
abbrev cond0_1 (i : grid0.Coords) : Prop := k0_cond2 i = 1#1
/-- It holds at the points ≡ 0 (mod 32) — by arithmetic of the point. -/
theorem hcond0_1 : ∀ t : Fin cfg0.N, cond0_1 (grid0.coords t) ↔ t.val % 32 = 0 :=
  (fun t => by
    have ht : t.val < 1280 := Nat.lt_of_lt_of_eq t.isLt N_0
    have e0 : (grid0.coords t 0).val = t.val / 64 % 20 := Pipeline.Grid.coords_val t 0 (by decide) rfl
    have e1 : (grid0.coords t 1).val = t.val / 32 % 2 := Pipeline.Grid.coords_val t 1 (by decide) rfl
    have e2 : (grid0.coords t 2).val = t.val / 1 % 32 := Pipeline.Grid.coords_val t 2 (by decide) rfl
    simp only [cond0_1, k0_cond2, e0, e1, e2]
    word_cmp
   : ∀ t : Fin grid0.N, cond0_1 (grid0.coords t) ↔ t.val % 32 = 0)

/-- The condition of the body's `scf.if` 2 (`k0_h3`), from the grid coordinates (the skeleton's scalar
    chain substituted). -/
abbrev cond0_2 (i : grid0.Coords) : Prop := k0_cond3 i = 1#1
/-- It holds at the points whose coordinates have 1 ≤ i2 — decided over the grid. -/
theorem hcond0_2 : ∀ t : Fin cfg0.N, cond0_2 (grid0.coords t) ↔ 1 ≤ t.val % 32 :=
  (by decide +kernel : ∀ t : Fin grid0.N, cond0_2 (grid0.coords t) ↔ 1 ≤ t.val % 32)

/-- The condition of the body's `scf.if` 3 (`k0_h4`), from the grid coordinates (the skeleton's scalar
    chain substituted). -/
abbrev cond0_3 (i : grid0.Coords) : Prop := k0_cond4 i = 1#1
/-- It holds at the points ≡ 31 (mod 32) — by arithmetic of the point. -/
theorem hcond0_3 : ∀ t : Fin cfg0.N, cond0_3 (grid0.coords t) ↔ t.val % 32 = 31 :=
  (fun t => by
    have ht : t.val < 1280 := Nat.lt_of_lt_of_eq t.isLt N_0
    have e0 : (grid0.coords t 0).val = t.val / 64 % 20 := Pipeline.Grid.coords_val t 0 (by decide) rfl
    have e1 : (grid0.coords t 1).val = t.val / 32 % 2 := Pipeline.Grid.coords_val t 1 (by decide) rfl
    have e2 : (grid0.coords t 2).val = t.val / 1 % 32 := Pipeline.Grid.coords_val t 2 (by decide) rfl
    simp only [cond0_3, k0_cond4, e0, e1, e2]
    word_cmp
   : ∀ t : Fin grid0.N, cond0_3 (grid0.coords t) ↔ t.val % 32 = 31)

/-- The condition of the body's `scf.if` 4 (`k0_h5`), from the grid coordinates (the skeleton's scalar
    chain substituted). -/
abbrev cond0_4 (i : grid0.Coords) : Prop := k0_cond5 i = 1#1
/-- It holds at the points whose coordinates have i1 = 1 — by arithmetic of the point. -/
theorem hcond0_4 : ∀ t : Fin cfg0.N, cond0_4 (grid0.coords t) ↔ t.val / 32 % 2 = 1 :=
  (fun t => by
    have ht : t.val < 1280 := Nat.lt_of_lt_of_eq t.isLt N_0
    have e0 : (grid0.coords t 0).val = t.val / 64 % 20 := Pipeline.Grid.coords_val t 0 (by decide) rfl
    have e1 : (grid0.coords t 1).val = t.val / 32 % 2 := Pipeline.Grid.coords_val t 1 (by decide) rfl
    have e2 : (grid0.coords t 2).val = t.val / 1 % 32 := Pipeline.Grid.coords_val t 2 (by decide) rfl
    simp only [cond0_4, k0_cond5, e0, e1, e2]
    word_cmp
   : ∀ t : Fin grid0.N, cond0_4 (grid0.coords t) ↔ t.val / 32 % 2 = 1)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1536x16384 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x256 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1536x256 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x256 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S1536x256 .f32 := Memref.whole cc0_scratch0
abbrev scM0_1 : Memref sig .tc .vmem S256x1536 .bf16 := Memref.whole cc0_scratch1
/-- The scratch `arg12` the kernel carries between points, as a view: what it holds is stated through it. -/
abbrev VS0_0 : View sig .tc .vmem S1536x256 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## What the body reads of `x`, and all it holds at a point -/

/-- Those columns lie inside `x`. -/
theorem xk_inb (i : grid0.Coords) (a : Fin 2) : (![0, 512 * (i 2).val] : Fin 2 → ℕ) a + S1536x512.size a ≤ S1536x16384.size a := by
  have h : (i 2).val < 32 := (i 2).isLt
  fin_cases a
  · exact (by decide : 0 + 1536 ≤ 1536)
  · show 512 * (i 2).val + 512 ≤ 16384
    omega

/-- The 512 columns of `x` that the body reads at a point: those of the point's block of rows of the weights. -/
def xk (i : grid0.Coords) (x : Vec F S1536x16384 .bf16) : Vec F S1536x512 .bf16 :=
  VecWindow.window x ![0, 512 * (i 2).val] S1536x512.size (xk_inb i)

/-- A load of those columns reads them. -/
theorem readAt_xk {κ : Kind} {sp : Space} {i : grid0.Coords} {off : Fin 2 → ℕ} (h : off = ![0, 512 * (i 2).val])
    (v : View sig κ sp S1536x16384 .bf16) (f : v.ty.Contents (Elt F)) (inb : ∀ a, off a + S1536x512.size a ≤ S1536x16384.size a) :
    v.readAt (Elt F) (Rect.unit (s := S1536x16384) off S1536x512.size inb).toLoadRect f = xk i (v.read (Elt F) f) :=
  View.readAt_unit v f inb h (xk_inb i)

/-! ## A load of a whole buffer reads all of it, shape by shape -/

/-- Of a 512 by 256 buffer. -/
theorem readAt_512x256 {κ : Kind} {sp : Space} {e : EltTy} (v : View sig κ sp S512x256 e) (f : v.ty.Contents (Elt F))
    (inb : ∀ a, (![0, 0] : Fin 2 → ℕ) a + (![512, 256] : Fin 2 → ℕ) a ≤ S512x256.size a) :
    v.readAt (Elt F) (Rect.unit (s := S512x256) ![0, 0] ![512, 256] inb).toLoadRect f = v.read (Elt F) f :=
  View.readAt_full v f inb
/-- Of a 8 by 256 buffer. -/
theorem readAt_8x256 {κ : Kind} {sp : Space} {e : EltTy} (v : View sig κ sp S8x256 e) (f : v.ty.Contents (Elt F))
    (inb : ∀ a, (![0, 0] : Fin 2 → ℕ) a + (![8, 256] : Fin 2 → ℕ) a ≤ S8x256.size a) :
    v.readAt (Elt F) (Rect.unit (s := S8x256) ![0, 0] ![8, 256] inb).toLoadRect f = v.read (Elt F) f :=
  View.readAt_full v f inb
/-- Of a 1 by 256 buffer. -/
theorem readAt_1x256 {κ : Kind} {sp : Space} {e : EltTy} (v : View sig κ sp S1x256 e) (f : v.ty.Contents (Elt F))
    (inb : ∀ a, (![0, 0] : Fin 2 → ℕ) a + (![1, 256] : Fin 2 → ℕ) a ≤ S1x256.size a) :
    v.readAt (Elt F) (Rect.unit (s := S1x256) ![0, 0] ![1, 256] inb).toLoadRect f = v.read (Elt F) f :=
  View.readAt_full v f inb
/-- Of a 1536 by 256 buffer. -/
theorem readAt_1536x256 {κ : Kind} {sp : Space} {e : EltTy} (v : View sig κ sp S1536x256 e) (f : v.ty.Contents (Elt F))
    (inb : ∀ a, (![0, 0] : Fin 2 → ℕ) a + (![1536, 256] : Fin 2 → ℕ) a ≤ S1536x256.size a) :
    v.readAt (Elt F) (Rect.unit (s := S1536x256) ![0, 0] ![1536, 256] inb).toLoadRect f = v.read (Elt F) f :=
  View.readAt_full v f inb
/-- Of a 256 by 1536 buffer. -/
theorem readAt_256x1536 {κ : Kind} {sp : Space} {e : EltTy} (v : View sig κ sp S256x1536 e) (f : v.ty.Contents (Elt F))
    (inb : ∀ a, (![0, 0] : Fin 2 → ℕ) a + (![256, 1536] : Fin 2 → ℕ) a ≤ S256x1536.size a) :
    v.readAt (Elt F) (Rect.unit (s := S256x1536) ![0, 0] ![256, 1536] inb).toLoadRect f = v.read (Elt F) f :=
  View.readAt_full v f inb
/-- A 1536 by 256 buffer stored whole reads what was stored. -/
theorem read_writes_1536x256 {κ : Kind} {sp : Space} {e : EltTy} (v : View sig κ sp S1536x256 e) (f : v.ty.Contents (Elt F))
    (inb : ∀ a, (![0, 0] : Fin 2 → ℕ) a + (![1536, 256] : Fin 2 → ℕ) a ≤ S1536x256.size a) (w : Vec F S1536x256 e) :
    v.read (Elt F) (v.writes (Elt F) f [⟨Rect.unit (s := S1536x256) ![0, 0] ![1536, 256] inb, w⟩]) = w :=
  View.read_writes_full v f inb w []

/-- The eleven buffers of the body, each at named contents: `x`, the weights, the integer weights, the scales, the
    rounding variable; the four results; the accumulated error and its transpose. -/
def Held (c : Dev nD) (arg3 : Memref sig .tc .vmem S1536x16384 .bf16) (arg4 : Memref sig .tc .vmem S512x256 .f32)
    (arg5 : Memref sig .tc .vmem S512x256 .i8) (arg6 : Memref sig .tc .vmem S8x256 .f32) (arg7 : Memref sig .tc .vmem S512x256 .f32)
    (arg8 arg9 : Memref sig .tc .vmem S1x256 .f32) (arg10 : Memref sig .tc .vmem S1536x256 .bf16)
    (arg11 : Memref sig .tc .vmem S512x256 .f32) (arg12 : Memref sig .tc .vmem S1536x256 .f32) (arg13 : Memref sig .tc .vmem S256x1536 .bf16)
    (x : Vec F S1536x16384 .bf16) (w : Vec F S512x256 .f32) (wf : Vec F S512x256 .i8) (s : Vec F S8x256 .f32) (v : Vec F S512x256 .f32)
    (recon reg : Vec F S1x256 .f32) (e : Vec F S1536x256 .bf16) (dv : Vec F S512x256 .f32)
    (acc : Vec F S1536x256 .f32) (et : Vec F S256x1536 .bf16) : sProp 𝕄 :=
  iprop(owns (c : Thread nD τ) arg3 fullShare x ∗ owns (c : Thread nD τ) arg4 fullShare w ∗ owns (c : Thread nD τ) arg5 fullShare wf
    ∗ owns (c : Thread nD τ) arg6 fullShare s ∗ owns (c : Thread nD τ) arg7 fullShare v ∗ owns (c : Thread nD τ) arg8 fullShare recon
    ∗ owns (c : Thread nD τ) arg9 fullShare reg ∗ owns (c : Thread nD τ) arg10 fullShare e ∗ owns (c : Thread nD τ) arg11 fullShare dv
    ∗ owns (c : Thread nD τ) arg12 fullShare acc ∗ owns (c : Thread nD τ) arg13 fullShare et)

end Cert.KernelIdeal.Step

end
-- ==== Proof.RunA.lean ====
module

public import proofs.«01_k».proof.Proof.Cases

@[expose] public section

set_option maxRecDepth 16384

noncomputable section

namespace Cert.KernelIdeal.Step

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ (UR sig nD τ) ℕ

set_option maxHeartbeats 2000000 in
/-- The first point of a column block's first pass: the block's product and its share of the rounding penalty start the accumulations. -/
theorem runA (c : Dev nD) (i : grid0.Coords) (arg3 : Memref sig .tc .vmem S1536x16384 .bf16) (harg3 : arg3.IsWhole)
    (arg4 : Memref sig .tc .vmem S512x256 .f32) (harg4 : arg4.IsWhole) (arg5 : Memref sig .tc .vmem S512x256 .i8) (harg5 : arg5.IsWhole)
    (arg6 : Memref sig .tc .vmem S8x256 .f32) (harg6 : arg6.IsWhole) (arg7 : Memref sig .tc .vmem S512x256 .f32) (harg7 : arg7.IsWhole)
    (arg8 : Memref sig .tc .vmem S1x256 .f32) (harg8 : arg8.IsWhole) (arg9 : Memref sig .tc .vmem S1x256 .f32) (harg9 : arg9.IsWhole)
    (arg10 : Memref sig .tc .vmem S1536x256 .bf16) (harg10 : arg10.IsWhole) (arg11 : Memref sig .tc .vmem S512x256 .f32) (harg11 : arg11.IsWhole)
    (arg12 : Memref sig .tc .vmem S1536x256 .f32) (harg12 : arg12.IsWhole) (arg13 : Memref sig .tc .vmem S256x1536 .bf16) (harg13 : arg13.IsWhole)
    (hc0 : cond0_0 i) (hc1 : cond0_1 i) (hc2 : ¬cond0_2 i) (hc3 : ¬cond0_3 i) (hc4 : ¬cond0_4 i)
    (x : Vec F S1536x16384 .bf16) (w : Vec F S512x256 .f32) (wf : Vec F S512x256 .i8) (s : Vec F S8x256 .f32) (v : Vec F S512x256 .f32)
    (recon reg : Vec F S1x256 .f32) (e : Vec F S1536x256 .bf16) (dv : Vec F S512x256 .f32)
    (acc : Vec F S1536x256 .f32) (et : Vec F S256x1536 .bf16) (E : Set ℕ) (K : PUnit → sProp 𝕄) :
    iprop(Held c arg3 arg4 arg5 arg6 arg7 arg8 arg9 arg10 arg11 arg12 arg13 x w wf s v recon reg e dv acc et
        ∗ (Held c arg3 arg4 arg5 arg6 arg7 arg8 arg9 arg10 arg11 arg12 arg13 x w wf s v
            recon (k0_pay14 (k0_pay1 v)) e dv
            (k0_pay13 (k0_pay1 v) (k0_pay2 wf) (k0_pay3 s) w (xk i x)) et -∗ K ⟨⟩))
      ⊢ wp frame (wpE (defs₀ (F := F)) Variants.none c none) E (cc0_adaround i arg3 harg3 arg4 harg4 arg5 harg5 arg6 harg6 arg7 harg7 arg8 harg8 arg9 harg9 arg10 harg10 arg11 harg11 arg12 harg12 arg13 harg13) K := by
  simp only [cc0_adaround_eq_skeleton]; unfold cc0_adaround_skel
  simp only [k0_part1_eq_skeleton]
  unfold Held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hf5
  obtain rfl := harg9.eq_unread hf6; obtain rfl := harg10.eq_unread hf7; obtain rfl := harg11.eq_unread hf8
  obtain rfl := harg12.eq_unread hf9; obtain rfl := harg13.eq_unread hf10
  sl_exec (disch := first | sl_exact hc0 | sl_exact hc1 | sl_exact hc2 | sl_exact hc3 | sl_exact hc4)
  sl_step
  iapply Hk
  isplitl [H0]
  · iexists _; isplitr; swap; · iexact H0
    ipureintro; exact harg3.read_unread _
  isplitl [H1]
  · iexists _; isplitr; swap; · iexact H1
    ipureintro; exact harg4.read_unread _
  isplitl [H2]
  · iexists _; isplitr; swap; · iexact H2
    ipureintro; exact harg5.read_unread _
  isplitl [H3]
  · iexists _; isplitr; swap; · iexact H3
    ipureintro; exact harg6.read_unread _
  isplitl [H4]
  · iexists _; isplitr; swap; · iexact H4
    ipureintro; exact harg7.read_unread _
  isplitl [H5]
  · iexists _; isplitr; swap; · iexact H5
    ipureintro; exact harg8.read_unread _
  isplitl [H6]
  · iexists _; isplitr; swap; · iexact H6
    ipureintro
    refine (View.read_writes_full _ _ _ _ _).trans ?_
    simp only [readAt_512x256, readAt_8x256, readAt_1x256, readAt_1536x256, readAt_256x1536, View.read_writes_full, Memref.IsWhole.read_unread, readAt_xk (k0_off1_eq i)]
  isplitl [H7]
  · iexists _; isplitr; swap; · iexact H7
    ipureintro; exact harg10.read_unread _
  isplitl [H8]
  · iexists _; isplitr; swap; · iexact H8
    ipureintro; exact harg11.read_unread _
  isplitl [H9]
  · iexists _; isplitr; swap; · iexact H9
    ipureintro
    refine (View.read_writes_full _ _ _ _ _).trans ?_
    simp only [readAt_512x256, readAt_8x256, readAt_1x256, readAt_1536x256, readAt_256x1536, View.read_writes_full, Memref.IsWhole.read_unread, readAt_xk (k0_off1_eq i)]
  iexists _; isplitr; swap; · iexact H10
  ipureintro; exact harg13.read_unread _

end Cert.KernelIdeal.Step

end
-- ==== Proof.RunB.lean ====
module

public import proofs.«01_k».proof.Proof.RunA

@[expose] public section

set_option maxRecDepth 16384

noncomputable section

namespace Cert.KernelIdeal.Step

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ (UR sig nD τ) ℕ

set_option maxHeartbeats 2000000 in
/-- A middle point of a column block's first pass: the block's product and its share of the rounding penalty are added. -/
theorem runB (c : Dev nD) (i : grid0.Coords) (arg3 : Memref sig .tc .vmem S1536x16384 .bf16) (harg3 : arg3.IsWhole)
    (arg4 : Memref sig .tc .vmem S512x256 .f32) (harg4 : arg4.IsWhole) (arg5 : Memref sig .tc .vmem S512x256 .i8) (harg5 : arg5.IsWhole)
    (arg6 : Memref sig .tc .vmem S8x256 .f32) (harg6 : arg6.IsWhole) (arg7 : Memref sig .tc .vmem S512x256 .f32) (harg7 : arg7.IsWhole)
    (arg8 : Memref sig .tc .vmem S1x256 .f32) (harg8 : arg8.IsWhole) (arg9 : Memref sig .tc .vmem S1x256 .f32) (harg9 : arg9.IsWhole)
    (arg10 : Memref sig .tc .vmem S1536x256 .bf16) (harg10 : arg10.IsWhole) (arg11 : Memref sig .tc .vmem S512x256 .f32) (harg11 : arg11.IsWhole)
    (arg12 : Memref sig .tc .vmem S1536x256 .f32) (harg12 : arg12.IsWhole) (arg13 : Memref sig .tc .vmem S256x1536 .bf16) (harg13 : arg13.IsWhole)
    (hc0 : cond0_0 i) (hc1 : ¬cond0_1 i) (hc2 : cond0_2 i) (hc3 : ¬cond0_3 i) (hc4 : ¬cond0_4 i)
    (x : Vec F S1536x16384 .bf16) (w : Vec F S512x256 .f32) (wf : Vec F S512x256 .i8) (s : Vec F S8x256 .f32) (v : Vec F S512x256 .f32)
    (recon reg : Vec F S1x256 .f32) (e : Vec F S1536x256 .bf16) (dv : Vec F S512x256 .f32)
    (acc : Vec F S1536x256 .f32) (et : Vec F S256x1536 .bf16) (E : Set ℕ) (K : PUnit → sProp 𝕄) :
    iprop(Held c arg3 arg4 arg5 arg6 arg7 arg8 arg9 arg10 arg11 arg12 arg13 x w wf s v recon reg e dv acc et
        ∗ (Held c arg3 arg4 arg5 arg6 arg7 arg8 arg9 arg10 arg11 arg12 arg13 x w wf s v
            recon (k0_pay5 (k0_pay11 (k0_pay1 v)) reg) e dv
            (k0_pay4 (k0_pay12 (k0_pay1 v) (k0_pay2 wf) (k0_pay3 s) w (xk i x)) acc) et -∗ K ⟨⟩))
      ⊢ wp frame (wpE (defs₀ (F := F)) Variants.none c none) E (cc0_adaround i arg3 harg3 arg4 harg4 arg5 harg5 arg6 harg6 arg7 harg7 arg8 harg8 arg9 harg9 arg10 harg10 arg11 harg11 arg12 harg12 arg13 harg13) K := by
  simp only [cc0_adaround_eq_skeleton]; unfold cc0_adaround_skel
  simp only [k0_part1_eq_skeleton]
  unfold Held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hf5
  obtain rfl := harg9.eq_unread hf6; obtain rfl := harg10.eq_unread hf7; obtain rfl := harg11.eq_unread hf8
  obtain rfl := harg12.eq_unread hf9; obtain rfl := harg13.eq_unread hf10
  sl_exec (disch := first | sl_exact hc0 | sl_exact hc1 | sl_exact hc2 | sl_exact hc3 | sl_exact hc4)
  sl_step
  iapply Hk
  isplitl [H0]
  · iexists _; isplitr; swap; · iexact H0
    ipureintro; exact harg3.read_unread _
  isplitl [H1]
  · iexists _; isplitr; swap; · iexact H1
    ipureintro; exact harg4.read_unread _
  isplitl [H2]
  · iexists _; isplitr; swap; · iexact H2
    ipureintro; exact harg5.read_unread _
  isplitl [H3]
  · iexists _; isplitr; swap; · iexact H3
    ipureintro; exact harg6.read_unread _
  isplitl [H4]
  · iexists _; isplitr; swap; · iexact H4
    ipureintro; exact harg7.read_unread _
  isplitl [H5]
  · iexists _; isplitr; swap; · iexact H5
    ipureintro; exact harg8.read_unread _
  isplitl [H6]
  · iexists _; isplitr; swap; · iexact H6
    ipureintro
    refine (View.read_writes_full _ _ _ _ _).trans ?_
    try delta runB.sl.r
    try delta runB.sl.r_1
    simp only [readAt_512x256, readAt_8x256, readAt_1x256, readAt_1536x256, readAt_256x1536, View.read_writes_full, Memref.IsWhole.read_unread, readAt_xk (k0_off1_eq i)]
  isplitl [H7]
  · iexists _; isplitr; swap; · iexact H7
    ipureintro; exact harg10.read_unread _
  isplitl [H8]
  · iexists _; isplitr; swap; · iexact H8
    ipureintro; exact harg11.read_unread _
  isplitl [H9]
  · iexists _; isplitr; swap; · iexact H9
    ipureintro
    refine (View.read_writes_full _ _ _ _ _).trans ?_
    try delta runB.sl.r
    try delta runB.sl.r_1
    simp only [readAt_512x256, readAt_8x256, readAt_1x256, readAt_1536x256, readAt_256x1536, View.read_writes_full, Memref.IsWhole.read_unread, readAt_xk (k0_off1_eq i)]
  iexists _; isplitr; swap; · iexact H10
  ipureintro; exact harg13.read_unread _

end Cert.KernelIdeal.Step

end
-- ==== Proof.RunC.lean ====
module

public import proofs.«01_k».proof.Proof.RunB

@[expose] public section

set_option maxRecDepth 16384

noncomputable section

namespace Cert.KernelIdeal.Step

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ (UR sig nD τ) ℕ

set_option maxHeartbeats 2000000 in
/-- The last point of a column block's first pass: the accumulations end, and the error's mean square, the error and its
    transpose are stored. -/
theorem runC (c : Dev nD) (i : grid0.Coords) (arg3 : Memref sig .tc .vmem S1536x16384 .bf16) (harg3 : arg3.IsWhole)
    (arg4 : Memref sig .tc .vmem S512x256 .f32) (harg4 : arg4.IsWhole) (arg5 : Memref sig .tc .vmem S512x256 .i8) (harg5 : arg5.IsWhole)
    (arg6 : Memref sig .tc .vmem S8x256 .f32) (harg6 : arg6.IsWhole) (arg7 : Memref sig .tc .vmem S512x256 .f32) (harg7 : arg7.IsWhole)
    (arg8 : Memref sig .tc .vmem S1x256 .f32) (harg8 : arg8.IsWhole) (arg9 : Memref sig .tc .vmem S1x256 .f32) (harg9 : arg9.IsWhole)
    (arg10 : Memref sig .tc .vmem S1536x256 .bf16) (harg10 : arg10.IsWhole) (arg11 : Memref sig .tc .vmem S512x256 .f32) (harg11 : arg11.IsWhole)
    (arg12 : Memref sig .tc .vmem S1536x256 .f32) (harg12 : arg12.IsWhole) (arg13 : Memref sig .tc .vmem S256x1536 .bf16) (harg13 : arg13.IsWhole)
    (hc0 : cond0_0 i) (hc1 : ¬cond0_1 i) (hc2 : cond0_2 i) (hc3 : cond0_3 i) (hc4 : ¬cond0_4 i)
    (x : Vec F S1536x16384 .bf16) (w : Vec F S512x256 .f32) (wf : Vec F S512x256 .i8) (s : Vec F S8x256 .f32) (v : Vec F S512x256 .f32)
    (recon reg : Vec F S1x256 .f32) (e : Vec F S1536x256 .bf16) (dv : Vec F S512x256 .f32)
    (acc : Vec F S1536x256 .f32) (et : Vec F S256x1536 .bf16) (E : Set ℕ) (K : PUnit → sProp 𝕄) :
    iprop(Held c arg3 arg4 arg5 arg6 arg7 arg8 arg9 arg10 arg11 arg12 arg13 x w wf s v recon reg e dv acc et
        ∗ (Held c arg3 arg4 arg5 arg6 arg7 arg8 arg9 arg10 arg11 arg12 arg13 x w wf s v
            (k0_pay6 (k0_pay4 (k0_pay12 (k0_pay1 v) (k0_pay2 wf) (k0_pay3 s) w (xk i x)) acc))
            (k0_pay5 (k0_pay11 (k0_pay1 v)) reg) (k0_pay7 (k0_pay4 (k0_pay12 (k0_pay1 v) (k0_pay2 wf) (k0_pay3 s) w (xk i x)) acc)) dv
            (k0_pay4 (k0_pay12 (k0_pay1 v) (k0_pay2 wf) (k0_pay3 s) w (xk i x)) acc)
            (k0_pay8 (k0_pay4 (k0_pay12 (k0_pay1 v) (k0_pay2 wf) (k0_pay3 s) w (xk i x)) acc)) -∗ K ⟨⟩))
      ⊢ wp frame (wpE (defs₀ (F := F)) Variants.none c none) E (cc0_adaround i arg3 harg3 arg4 harg4 arg5 harg5 arg6 harg6 arg7 harg7 arg8 harg8 arg9 harg9 arg10 harg10 arg11 harg11 arg12 harg12 arg13 harg13) K := by
  simp only [cc0_adaround_eq_skeleton]; unfold cc0_adaround_skel
  simp only [k0_part1_eq_skeleton]
  unfold Held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hf5
  obtain rfl := harg9.eq_unread hf6; obtain rfl := harg10.eq_unread hf7; obtain rfl := harg11.eq_unread hf8
  obtain rfl := harg12.eq_unread hf9; obtain rfl := harg13.eq_unread hf10
  sl_exec (disch := first | sl_exact hc0 | sl_exact hc1 | sl_exact hc2 | sl_exact hc3 | sl_exact hc4)
  sl_step
  iapply Hk
  isplitl [H0]
  · iexists _; isplitr; swap; · iexact H0
    ipureintro; exact harg3.read_unread _
  isplitl [H1]
  · iexists _; isplitr; swap; · iexact H1
    ipureintro; exact harg4.read_unread _
  isplitl [H2]
  · iexists _; isplitr; swap; · iexact H2
    ipureintro; exact harg5.read_unread _
  isplitl [H3]
  · iexists _; isplitr; swap; · iexact H3
    ipureintro; exact harg6.read_unread _
  isplitl [H4]
  · iexists _; isplitr; swap; · iexact H4
    ipureintro; exact harg7.read_unread _
  isplitl [H5]
  · iexists _; isplitr; swap; · iexact H5
    ipureintro
    refine (View.read_writes_full _ _ _ _ _).trans ?_
    try delta runC.sl.v61
    try delta runC.sl.H9_1
    try delta runC.sl.r
    try delta runC.sl.r_1
    simp only [View.readCov, readAt_512x256, readAt_8x256, readAt_1x256, readAt_1536x256, readAt_256x1536, read_writes_1536x256, Memref.IsWhole.read_unread, readAt_xk (k0_off1_eq i)]
  isplitl [H6]
  · iexists _; isplitr; swap; · iexact H6
    ipureintro
    refine (View.read_writes_full _ _ _ _ _).trans ?_
    try delta runC.sl.v61
    try delta runC.sl.H9_1
    try delta runC.sl.r
    try delta runC.sl.r_1
    simp only [View.readCov, readAt_512x256, readAt_8x256, readAt_1x256, readAt_1536x256, readAt_256x1536, read_writes_1536x256, Memref.IsWhole.read_unread, readAt_xk (k0_off1_eq i)]
  isplitl [H7]
  · iexists _; isplitr; swap; · iexact H7
    ipureintro
    refine (View.read_writes_full _ _ _ _ _).trans ?_
    try delta runC.sl.v61
    try delta runC.sl.H9_1
    try delta runC.sl.r
    try delta runC.sl.r_1
    simp only [View.readCov, readAt_512x256, readAt_8x256, readAt_1x256, readAt_1536x256, readAt_256x1536, read_writes_1536x256, Memref.IsWhole.read_unread, readAt_xk (k0_off1_eq i)]
  isplitl [H8]
  · iexists _; isplitr; swap; · iexact H8
    ipureintro; exact harg11.read_unread _
  isplitl [H9]
  · iexists _; isplitr; swap; · iexact H9
    ipureintro
    refine (View.read_writes_full _ _ _ _ _).trans ?_
    try delta runC.sl.v61
    try delta runC.sl.H9_1
    try delta runC.sl.r
    try delta runC.sl.r_1
    simp only [View.readCov, readAt_512x256, readAt_8x256, readAt_1x256, readAt_1536x256, readAt_256x1536, read_writes_1536x256, Memref.IsWhole.read_unread, readAt_xk (k0_off1_eq i)]
  iexists _; isplitr; swap; · iexact H10
  ipureintro
  refine (View.read_writes_full _ _ _ _ _).trans ?_
  delta runC.sl.v61
  delta runC.sl.H9_1
  delta runC.sl.r_1
  simp only [View.readCov, readAt_512x256, readAt_8x256, readAt_1x256, readAt_1536x256, readAt_256x1536, read_writes_1536x256, Memref.IsWhole.read_unread, readAt_xk (k0_off1_eq i)]

end Cert.KernelIdeal.Step

end
-- ==== Proof.RunD.lean ====
module

public import proofs.«01_k».proof.Proof.RunC

@[expose] public section

set_option maxRecDepth 16384

noncomputable section

namespace Cert.KernelIdeal.Step

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ (UR sig nD τ) ℕ

set_option maxHeartbeats 2000000 in
/-- A point of a column block's second pass: the block's gradient is stored, from the transposed error the first pass left. -/
theorem runD (c : Dev nD) (i : grid0.Coords) (arg3 : Memref sig .tc .vmem S1536x16384 .bf16) (harg3 : arg3.IsWhole)
    (arg4 : Memref sig .tc .vmem S512x256 .f32) (harg4 : arg4.IsWhole) (arg5 : Memref sig .tc .vmem S512x256 .i8) (harg5 : arg5.IsWhole)
    (arg6 : Memref sig .tc .vmem S8x256 .f32) (harg6 : arg6.IsWhole) (arg7 : Memref sig .tc .vmem S512x256 .f32) (harg7 : arg7.IsWhole)
    (arg8 : Memref sig .tc .vmem S1x256 .f32) (harg8 : arg8.IsWhole) (arg9 : Memref sig .tc .vmem S1x256 .f32) (harg9 : arg9.IsWhole)
    (arg10 : Memref sig .tc .vmem S1536x256 .bf16) (harg10 : arg10.IsWhole) (arg11 : Memref sig .tc .vmem S512x256 .f32) (harg11 : arg11.IsWhole)
    (arg12 : Memref sig .tc .vmem S1536x256 .f32) (harg12 : arg12.IsWhole) (arg13 : Memref sig .tc .vmem S256x1536 .bf16) (harg13 : arg13.IsWhole)
    (hc0 : ¬cond0_0 i) (hc4 : cond0_4 i)
    (x : Vec F S1536x16384 .bf16) (w : Vec F S512x256 .f32) (wf : Vec F S512x256 .i8) (s : Vec F S8x256 .f32) (v : Vec F S512x256 .f32)
    (recon reg : Vec F S1x256 .f32) (e : Vec F S1536x256 .bf16) (dv : Vec F S512x256 .f32)
    (acc : Vec F S1536x256 .f32) (et : Vec F S256x1536 .bf16) (E : Set ℕ) (K : PUnit → sProp 𝕄) :
    iprop(Held c arg3 arg4 arg5 arg6 arg7 arg8 arg9 arg10 arg11 arg12 arg13 x w wf s v recon reg e dv acc et
        ∗ (Held c arg3 arg4 arg5 arg6 arg7 arg8 arg9 arg10 arg11 arg12 arg13 x w wf s v
            recon reg e
            (k0_pay9 (k0_pay16 (k0_pay1 v)) (k0_pay17 (k0_pay1 v) (k0_pay2 wf) (k0_pay3 s) (xk i x) et) (k0_pay18 (k0_pay1 v)) k0_pay19)
            acc et -∗ K ⟨⟩))
      ⊢ wp frame (wpE (defs₀ (F := F)) Variants.none c none) E (cc0_adaround i arg3 harg3 arg4 harg4 arg5 harg5 arg6 harg6 arg7 harg7 arg8 harg8 arg9 harg9 arg10 harg10 arg11 harg11 arg12 harg12 arg13 harg13) K := by
  simp only [cc0_adaround_eq_skeleton]; unfold cc0_adaround_skel
  simp only [k0_part2_eq_skeleton]
  unfold Held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hf5
  obtain rfl := harg9.eq_unread hf6; obtain rfl := harg10.eq_unread hf7; obtain rfl := harg11.eq_unread hf8
  obtain rfl := harg12.eq_unread hf9; obtain rfl := harg13.eq_unread hf10
  sl_exec (disch := first | sl_exact hc0 | sl_exact hc4)
  sl_step
  iapply Hk
  isplitl [H0]
  · iexists _; isplitr; swap; · iexact H0
    ipureintro; exact harg3.read_unread _
  isplitl [H1]
  · iexists _; isplitr; swap; · iexact H1
    ipureintro; exact harg4.read_unread _
  isplitl [H2]
  · iexists _; isplitr; swap; · iexact H2
    ipureintro; exact harg5.read_unread _
  isplitl [H3]
  · iexists _; isplitr; swap; · iexact H3
    ipureintro; exact harg6.read_unread _
  isplitl [H4]
  · iexists _; isplitr; swap; · iexact H4
    ipureintro; exact harg7.read_unread _
  isplitl [H5]
  · iexists _; isplitr; swap; · iexact H5
    ipureintro; exact harg8.read_unread _
  isplitl [H6]
  · iexists _; isplitr; swap; · iexact H6
    ipureintro; exact harg9.read_unread _
  isplitl [H7]
  · iexists _; isplitr; swap; · iexact H7
    ipureintro; exact harg10.read_unread _
  isplitl [H8]
  · iexists _; isplitr; swap; · iexact H8
    ipureintro
    refine (View.read_writes_full _ _ _ _ _).trans ?_
    try delta runD.sl.r
    try delta runD.sl.r_1
    try delta runD.sl.r_2
    simp only [readAt_512x256, readAt_8x256, readAt_1x256, readAt_1536x256, readAt_256x1536, View.read_writes_full, Memref.IsWhole.read_unread, readAt_xk (k0_off2_eq i)]
  isplitl [H9]
  · iexists _; isplitr; swap; · iexact H9
    ipureintro; exact harg12.read_unread _
  iexists _; isplitr; swap; · iexact H10
  ipureintro; exact harg13.read_unread _

end Cert.KernelIdeal.Step

end
-- ==== Proof.Data.lean ====
/- What each point of the idealized kernel's grid leaves: 20 column blocks, each in two passes of 32 points. The first pass
   accumulates the error and the penalty, the second stores the gradient, block of rows by block of rows. -/
module

public import proofs.«01_k».proof.Proof.RunD
public import Idealize.ShloMosaic.Lib.Pipeline.TableIdle

@[expose] public section

set_option maxRecDepth 16384

noncomputable section

namespace Cert.KernelIdeal.Step

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ)

/-- There are 1280 points. -/
theorem lt_N (t : Fin cfg0.N) : t.val < 1280 := lt_of_lt_of_eq t.isLt (show cfg0.N = 1280 from N_0)

/-- Point `j` of the 64 of column block `b`. -/
def pt (b j : ℕ) : Fin cfg0.N := ⟨(64 * b + j) % 1280, lt_of_lt_of_eq (Nat.mod_lt _ (by decide)) (show 1280 = cfg0.N from N_0.symm)⟩

/-- Every point is one of its column block's. -/
theorem pt_eq (t : Fin cfg0.N) {b j : ℕ} (h : t.val = 64 * b + j) : pt b j = t :=
  Fin.ext (by have := lt_N t; show (64 * b + j) % 1280 = t.val; omega)

/-- The product of a point's columns of `x` with its block of the rounding error. -/
def errAt (c : Dev nD) (t : Fin cfg0.N) : Vec F S1536x256 .f32 :=
  k0_pay12 (k0_pay1 (iblk m c 4 t)) (k0_pay2 (iblk m c 2 t)) (k0_pay3 (iblk m c 3 t)) (iblk m c 1 t) (xk (grid0.coords t) (iblk m c 0 t))

/-- The accumulated error of column block `b` after its point `j`. -/
def accAt (c : Dev nD) (b : ℕ) : ℕ → Vec F S1536x256 .f32
  | 0 => k0_pay13 (k0_pay1 (iblk m c 4 (pt b 0))) (k0_pay2 (iblk m c 2 (pt b 0))) (k0_pay3 (iblk m c 3 (pt b 0))) (iblk m c 1 (pt b 0))
      (xk (grid0.coords (pt b 0)) (iblk m c 0 (pt b 0)))
  | j + 1 => k0_pay4 (errAt m c (pt b (j + 1))) (accAt c b j)

/-- The accumulated penalty of column block `b` after its point `j`. -/
def regAt (c : Dev nD) (b : ℕ) : ℕ → Vec F S1x256 .f32
  | 0 => k0_pay14 (k0_pay1 (iblk m c 4 (pt b 0)))
  | j + 1 => k0_pay5 (k0_pay11 (k0_pay1 (iblk m c 4 (pt b (j + 1))))) (regAt c b j)

/-- The block of the gradient a point of the second pass stores. -/
def dvAt (c : Dev nD) (t : Fin cfg0.N) : Vec F S512x256 .f32 :=
  k0_pay9 (k0_pay16 (k0_pay1 (iblk m c 4 t)))
    (k0_pay17 (k0_pay1 (iblk m c 4 t)) (k0_pay2 (iblk m c 2 t)) (k0_pay3 (iblk m c 3 t)) (xk (grid0.coords t) (iblk m c 0 t))
      (k0_pay8 (accAt m c (t.val / 64) 31)))
    (k0_pay18 (k0_pay1 (iblk m c 4 t))) k0_pay19

/-- The accumulator before a point, where it is read: in the first pass, after its first point. -/
def HasAcc (c : Dev nD) (n : ℕ) (a : Vec F S1536x256 .f32) : Prop := 1 ≤ n % 64 → n % 64 < 32 → a = accAt m c (n / 64) (n % 64 - 1)

/-- The transposed error before a point, where it is read: in the second pass. -/
def HasEt (c : Dev nD) (n : ℕ) (e : Vec F S256x1536 .bf16) : Prop := 32 ≤ n % 64 → e = k0_pay8 (accAt m c (n / 64) 31)

/-- What the kernel carries from point to point: the accumulator, the transposed error, the generator's register. -/
def Carry (c : Dev nD) (n : ℕ) : sProp 𝕄 :=
  iprop(((∃ a, ⌜HasAcc m c n a⌝ ∗ owns (c : Thread nD τ) scM0_0 fullShare a) ∗ (∃ e, ⌜HasEt m c n e⌝ ∗ owns (c : Thread nD τ) scM0_1 fullShare e))
    ∗ (∃ r, prngReg c r))

/-- The proof data: the arrays as the region finds them; after a point each input's buffer at its block, the results'
    buffers at the column block's mean square, penalty so far, error, and at the point's block of the gradient. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay6 (accAt m c (t.val / 64) 31)
    | ⟨6, _⟩ => regAt m c (t.val / 64) (min (t.val % 64) 31)
    | ⟨7, _⟩ => k0_pay7 (accAt m c (t.val / 64) 31)
    | ⟨8, _⟩ => dvAt m c t
  Φ t := Carry m c t.val
  q _ := fullShare
  owed _ := 0

/-- The proof data's arrays are those the region finds. -/
theorem A_eq (c : Dev nD) (w : Fin cfg0.W) : (dats m 0 c).A w = V m c (Pipeline.arrRef spec0 w) := by
  dsimp only [dats]

/-! ## What each window's buffer holds after a point -/

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = k0_pay6 (accAt m c (t.val / 64) 31) := by dsimp only [dats]
theorem after_6 (c : Dev nD) (t : Fin cfg0.N) : (dats m 0 c).after 6 t = regAt m c (t.val / 64) (min (t.val % 64) 31) := by dsimp only [dats]
theorem after_7 (c : Dev nD) (t : Fin cfg0.N) : (dats m 0 c).after 7 t = k0_pay7 (accAt m c (t.val / 64) 31) := by dsimp only [dats]
theorem after_8 (c : Dev nD) (t : Fin cfg0.N) : (dats m 0 c).after 8 t = dvAt m c t := by dsimp only [dats]

/-! ## What each input's buffer holds before a point: its block -/

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-! ## Where a result's window is idle, and where it is written back -/

/-- The mean square is stored at the last point of a first pass only; -/
theorem idle_5 (t : Fin cfg0.N) : cfg0.idle 5 (grid0.coords t) = decide (t.val % 64 ≠ 31) := by
  have h0 := hcond0_0 t; have h3 := hcond0_3 t
  show (!(k0_cond1 (grid0.coords t) == 1#1 && k0_cond4 (grid0.coords t) == 1#1)) = _
  rw [Bool.eq_iff_iff]
  simp only [Bool.not_eq_true', Bool.and_eq_false_iff, beq_eq_false_iff_ne, decide_eq_true_eq, ne_eq]
  unfold cond0_0 at h0; unfold cond0_3 at h3
  rw [h0, h3]; omega
/-- the error likewise; -/
theorem idle_7 (t : Fin cfg0.N) : cfg0.idle 7 (grid0.coords t) = decide (t.val % 64 ≠ 31) := idle_5 t
/-- the penalty at every point of a first pass; -/
theorem idle_6 (t : Fin cfg0.N) : cfg0.idle 6 (grid0.coords t) = decide (32 ≤ t.val % 64) := by
  have h0 := hcond0_0 t; have h1 := hcond0_1 t; have h2 := hcond0_2 t
  show (!(k0_cond1 (grid0.coords t) == 1#1 && k0_cond2 (grid0.coords t) == 1#1)
    && !(k0_cond1 (grid0.coords t) == 1#1 && k0_cond3 (grid0.coords t) == 1#1)) = _
  rw [Bool.eq_iff_iff]
  simp only [Bool.and_eq_true, Bool.not_eq_true', Bool.and_eq_false_iff, beq_eq_false_iff_ne, decide_eq_true_eq, ne_eq]
  unfold cond0_0 at h0; unfold cond0_1 at h1; unfold cond0_2 at h2
  rw [h0, h1, h2]; omega
/-- the gradient at every point of a second pass. -/
theorem idle_8 (t : Fin cfg0.N) : cfg0.idle 8 (grid0.coords t) = decide (t.val % 64 < 32) := by
  have h4 := hcond0_4 t
  show (!(k0_cond5 (grid0.coords t) == 1#1)) = _
  rw [Bool.eq_iff_iff]
  simp only [Bool.not_eq_true', beq_eq_false_iff_ne, decide_eq_true_eq, ne_eq]
  unfold cond0_4 at h4
  rw [h4]; omega

/-- The gradient is not written back during a first pass. -/
theorem flush_8 (t : Fin cfg0.N) (h : t.val % 64 < 32) : (cfg0.win 8).flush t = false := by
  have key : ∀ t : Fin grid0.N, t.val % 64 < 32 → win0_8.flushF t = false := by decide +kernel
  exact (win0_8.flush_eq_flushF t).trans (key t h)

/-- Where a Boolean is said by its truth. -/
theorem flush_5 (t : Fin cfg0.N) : (cfg0.win 5).flush t = decide (t.val % 64 = 63) := by
  rw [Bool.eq_iff_iff, flush0_5, decide_eq_true_eq]
theorem flush_6 (t : Fin cfg0.N) : (cfg0.win 6).flush t = decide (t.val % 64 = 63) := by
  rw [Bool.eq_iff_iff, flush0_6, decide_eq_true_eq]
theorem flush_7 (t : Fin cfg0.N) : (cfg0.win 7).flush t = decide (t.val % 64 = 63) := by
  rw [Bool.eq_iff_iff, flush0_7, decide_eq_true_eq]

/-- Nothing of a column block's mean square is in its buffer during the block's first pass; -/
theorem fresh_5 (n : ℕ) (h : n ≤ cfg0.N) : cfg0.fresh 5 n = decide (n % 64 < 32) :=
  cfg0.fresh_tab 5 (fun n => decide (n % 64 < 32)) rfl (fun t => by
    rw [flush_5, idle_5, Bool.eq_iff_iff]
    simp only [Bool.or_eq_true, Bool.and_eq_true, decide_eq_true_eq]; omega) n h
/-- nor of its error; -/
theorem fresh_7 (n : ℕ) (h : n ≤ cfg0.N) : cfg0.fresh 7 n = decide (n % 64 < 32) :=
  cfg0.fresh_tab 7 (fun n => decide (n % 64 < 32)) rfl (fun t => by
    rw [flush_7, idle_7, Bool.eq_iff_iff]
    simp only [Bool.or_eq_true, Bool.and_eq_true, decide_eq_true_eq]; omega) n h
/-- nor of its penalty at its first point. -/
theorem fresh_6 (n : ℕ) (h : n ≤ cfg0.N) : cfg0.fresh 6 n = decide (n % 64 = 0) :=
  cfg0.fresh_tab 6 (fun n => decide (n % 64 = 0)) rfl (fun t => by
    rw [flush_6, idle_6, Bool.eq_iff_iff]
    simp only [Bool.or_eq_true, Bool.and_eq_true, decide_eq_true_eq]; omega) n h

/-! ## What a result's buffer holds before a point of its column block, once stored -/

/-- The mean square, through the second pass; -/
theorem before_5 (c : Dev nD) (t : Fin cfg0.N) (d) (h : 32 ≤ t.val % 64) : (dats m 0 c).before 5 t d = k0_pay6 (accAt m c (t.val / 64) 31) := by
  rw [(dats m 0 c).before_out_traj 5 rfl (fun _ _ => rfl) (fun t ht _ hf => by
      rw [fresh_5 _ t.isLt.le] at hf
      rw [after_5, after_5, show (t.val - 1) / 64 = t.val / 64 from by have := of_decide_eq_false hf; omega]) _ t rfl d,
    if_neg (by rw [fresh_5 _ t.isLt.le, decide_eq_true_eq]; omega), after_5, show (t.val - 1) / 64 = t.val / 64 from by omega]
/-- the error, through the second pass; -/
theorem before_7 (c : Dev nD) (t : Fin cfg0.N) (d) (h : 32 ≤ t.val % 64) : (dats m 0 c).before 7 t d = k0_pay7 (accAt m c (t.val / 64) 31) := by
  rw [(dats m 0 c).before_out_traj 7 rfl (fun _ _ => rfl) (fun t ht _ hf => by
      rw [fresh_7 _ t.isLt.le] at hf
      rw [after_7, after_7, show (t.val - 1) / 64 = t.val / 64 from by have := of_decide_eq_false hf; omega]) _ t rfl d,
    if_neg (by rw [fresh_7 _ t.isLt.le, decide_eq_true_eq]; omega), after_7, show (t.val - 1) / 64 = t.val / 64 from by omega]
/-- the penalty, from the first point on. -/
theorem before_6 (c : Dev nD) (t : Fin cfg0.N) (d) (h : t.val % 64 ≠ 0) :
    (dats m 0 c).before 6 t d = regAt m c (t.val / 64) (min (t.val % 64 - 1) 31) := by
  rw [(dats m 0 c).before_out_traj 6 rfl (fun _ _ => rfl) (fun t ht hi _ => by
      rw [idle_6, decide_eq_true_eq] at hi
      rw [after_6, after_6, show (t.val - 1) / 64 = t.val / 64 from by omega,
        show min ((t.val - 1) % 64) 31 = min (t.val % 64) 31 from by omega]) _ t rfl d,
    if_neg (by rw [fresh_6 _ t.isLt.le, decide_eq_true_eq]; omega), after_6, show (t.val - 1) / 64 = t.val / 64 from by omega,
    show (t.val - 1) % 64 = t.val % 64 - 1 from by omega]

end Cert.KernelIdeal.Step

end
-- ==== Proof.Body.lean ====
/- The body at every point of the idealized kernel's grid leaves what the proof data say. -/
module

public import proofs.«01_k».proof.Proof.Data

@[expose] public section

set_option maxRecDepth 16384

noncomputable section

namespace Cert.KernelIdeal.Step

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ)

/-- Contents `y` of window `w`'s buffer are what the body owes there after point `t`, having found what a buffer of
    contents `d` would hold: the stored contents where it stores, what it found where it does not, and what is to be
    written back where the block is. -/
structure Gives (c : Dev nD) (w : Fin cfg0.W) (t : Fin cfg0.N) (d y : (cfg0.win w).block.Idx → Elt F (cfg0.win w).elt) : Prop where
  live : cfg0.idle w (grid0.coords t) = false → y = (dats m 0 c).after w t
  kept : (cfg0.win w).flush t = false → cfg0.idle w (grid0.coords t) = true → y = (dats m 0 c).before w t d
  out : (cfg0.win w).flush t = true → cfg0.idle w (grid0.coords t) = true → y = (dats m 0 c).after w t

/-- Such contents are handed back. -/
theorem give (c : Dev nD) (w : Fin cfg0.W) (t : Fin cfg0.N) (d y) (h : Gives m c w t d y) :
    owns (c : Thread nD τ) ((cfg0.win w).stage (cfg0.slots t w)) fullShare y ⊢ ((dats m 0 c).leavesExact w t : sProp 𝕄) := by
  obtain ⟨h1, h2, h3⟩ := h
  unfold Dat.leavesExact
  split
  · rename_i hi
    split
    · rename_i hf
      rw [h2 hf hi]
      iintro H; iexists d; iexact H
    · rename_i hf
      rw [h3 hf hi]
  · rename_i hi
    rw [h1 hi]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

/-- The body at a point is right when its run there, from the inputs' blocks and whatever else the buffers then hold,
    leaves the results' buffers and what is carried as the proof data say. -/
theorem sound_of (c : Dev nD) (t : Fin cfg0.N)
    (h : ∀ (d5 d6 : Vec F S1x256 .f32) (d7 : Vec F S1536x256 .bf16) (d8 : Vec F S512x256 .f32) (a : Vec F S1536x256 .f32) (e : Vec F S256x1536 .bf16),
      HasAcc m c t.val a → HasEt m c t.val e →
      ∃ (y5 y6 : Vec F S1x256 .f32) (y7 : Vec F S1536x256 .bf16) (y8 : Vec F S512x256 .f32) (a' : Vec F S1536x256 .f32) (e' : Vec F S256x1536 .bf16),
        (∀ K : PUnit → sProp 𝕄,
          iprop(Held c (ms0_0 t) (ms0_1 t) (ms0_2 t) (ms0_3 t) (ms0_4 t) (ms0_5 t) (ms0_6 t) (ms0_7 t) (ms0_8 t) scM0_0 scM0_1 (iblk m c 0 t) (iblk m c 1 t) (iblk m c 2 t) (iblk m c 3 t) (iblk m c 4 t)
              ((dats m 0 c).before 5 t d5) ((dats m 0 c).before 6 t d6) ((dats m 0 c).before 7 t d7) ((dats m 0 c).before 8 t d8) a e
            ∗ (Held c (ms0_0 t) (ms0_1 t) (ms0_2 t) (ms0_3 t) (ms0_4 t) (ms0_5 t) (ms0_6 t) (ms0_7 t) (ms0_8 t) scM0_0 scM0_1 (iblk m c 0 t) (iblk m c 1 t) (iblk m c 2 t) (iblk m c 3 t) (iblk m c 4 t) y5 y6 y7 y8 a' e' -∗ K ⟨⟩))
          ⊢ wp frame (wpE (defs₀ (F := F)) Variants.none c none) Set.univ (bodyAt0 t) K)
        ∧ Gives m c 5 t d5 y5 ∧ Gives m c 6 t d6 y6 ∧ Gives m c 7 t d7 y7 ∧ Gives m c 8 t d8 y8
        ∧ HasAcc m c (t.val + 1) a' ∧ HasEt m c (t.val + 1) e') :
    bodyPre m c t ⊢ wp frame (wpE (defs₀ (F := F)) Variants.none c none) Set.univ (bodyAt0 t) (fun _ => bodyPost m c t) := by
  unfold bodyPre bodyPost
  simp only [before_0, before_1, before_2, before_3, before_4]
  rw [show (dats m 0 c).owesAt () t.succ = (dats m 0 c).owesAt () t.castSucc from rfl,
    show (dats m 0 c).Φ t.succ = Carry m c (t.val + 1) from rfl, show (dats m 0 c).Φ t.castSucc = Carry m c t.val from rfl]
  unfold Carry
  iintro ⟨⟨⟨⟨%a, %ha, HS0⟩, ⟨%e, %he, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  obtain ⟨y5, y6, y7, y8, a', e', hrun, g5, g6, g7, g8, ha', he'⟩ := h d5 d6 d7 d8 a e ha he
  iapply (hrun _)
  unfold Held
  isplitl [H0 H1 H2 H3 H4 H5 H6 H7 H8 HS0 HS1]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    iexact HS1
  iintro ⟨H0, H1, H2, H3, H4, H5, H6, H7, H8, HS0, HS1⟩
  isplitl [HS0 HS1 Hg]
  · isplitl [HS0 HS1]
    · isplitl [HS0]
      · iexists a'; isplitr; · ipureintro; exact ha'
        iexact HS0
      iexists e'; isplitr; · ipureintro; exact he'
      iexact HS1
    iexact Hg
  isplitl [Ho]; · iexact Ho
  isplitl [H0]; · iapply (give m c 0 t d0 _ ⟨fun _ => (after_0 m c t).symm, fun _ hi => absurd hi Bool.false_ne_true, fun _ hi => absurd hi Bool.false_ne_true⟩); iexact H0
  isplitl [H1]; · iapply (give m c 1 t d1 _ ⟨fun _ => (after_1 m c t).symm, fun _ hi => absurd hi Bool.false_ne_true, fun _ hi => absurd hi Bool.false_ne_true⟩); iexact H1
  isplitl [H2]; · iapply (give m c 2 t d2 _ ⟨fun _ => (after_2 m c t).symm, fun _ hi => absurd hi Bool.false_ne_true, fun _ hi => absurd hi Bool.false_ne_true⟩); iexact H2
  isplitl [H3]; · iapply (give m c 3 t d3 _ ⟨fun _ => (after_3 m c t).symm, fun _ hi => absurd hi Bool.false_ne_true, fun _ hi => absurd hi Bool.false_ne_true⟩); iexact H3
  isplitl [H4]; · iapply (give m c 4 t d4 _ ⟨fun _ => (after_4 m c t).symm, fun _ hi => absurd hi Bool.false_ne_true, fun _ hi => absurd hi Bool.false_ne_true⟩); iexact H4
  isplitl [H5]; · iapply (give m c 5 t d5 y5 g5); iexact H5
  isplitl [H6]; · iapply (give m c 6 t d6 y6 g6); iexact H6
  isplitl [H7]; · iapply (give m c 7 t d7 y7 g7); iexact H7
  iapply (give m c 8 t d8 y8 g8); iexact H8

/-! ## A window the point leaves alone -/

/-- The mean square's, away from the last point of a first pass; -/
theorem gives_5 (c : Dev nD) (t : Fin cfg0.N) (d) (h : t.val % 64 ≠ 31) : Gives m c 5 t d ((dats m 0 c).before 5 t d) :=
  ⟨fun hi => by rw [idle_5] at hi; exact absurd h (of_decide_eq_false hi), fun _ _ => rfl, fun hf _ => by
    rw [flush_5, decide_eq_true_eq] at hf; rw [after_5, before_5 m c t d (by omega)]⟩
/-- the error's likewise; -/
theorem gives_7 (c : Dev nD) (t : Fin cfg0.N) (d) (h : t.val % 64 ≠ 31) : Gives m c 7 t d ((dats m 0 c).before 7 t d) :=
  ⟨fun hi => by rw [idle_7] at hi; exact absurd h (of_decide_eq_false hi), fun _ _ => rfl, fun hf _ => by
    rw [flush_7, decide_eq_true_eq] at hf; rw [after_7, before_7 m c t d (by omega)]⟩
/-- the penalty's, in a second pass; -/
theorem gives_6 (c : Dev nD) (t : Fin cfg0.N) (d) (h : 32 ≤ t.val % 64) : Gives m c 6 t d ((dats m 0 c).before 6 t d) :=
  ⟨fun hi => by rw [idle_6] at hi; exact absurd h (of_decide_eq_false hi), fun _ _ => rfl, fun hf _ => by
    rw [flush_6, decide_eq_true_eq] at hf
    rw [after_6, before_6 m c t d (by omega), show min (t.val % 64 - 1) 31 = min (t.val % 64) 31 from by omega]⟩
/-- the gradient's, in a first pass. -/
theorem gives_8 (c : Dev nD) (t : Fin cfg0.N) (d) (h : t.val % 64 < 32) : Gives m c 8 t d ((dats m 0 c).before 8 t d) :=
  ⟨fun hi => by rw [idle_8] at hi; exact absurd h (of_decide_eq_false hi), fun _ _ => rfl, fun hf _ => by
    rw [flush_8 t h] at hf; exact absurd hf Bool.false_ne_true⟩

/-- A window the point stores into is given by what it stores. -/
theorem gives_live (c : Dev nD) (w : Fin cfg0.W) (t : Fin cfg0.N) (d y) (hi : cfg0.idle w (grid0.coords t) = false)
    (h : y = (dats m 0 c).after w t) : Gives m c w t d y :=
  ⟨fun _ => h, fun _ h' => by rw [hi] at h'; exact absurd h' Bool.false_ne_true, fun _ h' => by rw [hi] at h'; exact absurd h' Bool.false_ne_true⟩

/-! ## The accumulations, from point to point -/

/-- The accumulated error after a later point of a first pass: the point's product added to what it was. -/
theorem accAt_step (c : Dev nD) (t : Fin cfg0.N) (h : t.val % 64 ≠ 0) :
    accAt m c (t.val / 64) (t.val % 64) = k0_pay4 (errAt m c t) (accAt m c (t.val / 64) (t.val % 64 - 1)) := by
  obtain ⟨j, hj⟩ : ∃ j, t.val % 64 = j + 1 := ⟨t.val % 64 - 1, by omega⟩
  rw [hj]
  show k0_pay4 (errAt m c (pt (t.val / 64) (j + 1))) _ = _
  rw [pt_eq t (by omega)]; rfl

/-- The accumulated penalty likewise. -/
theorem regAt_step (c : Dev nD) (t : Fin cfg0.N) (h : t.val % 64 ≠ 0) :
    regAt m c (t.val / 64) (t.val % 64) = k0_pay5 (k0_pay11 (k0_pay1 (iblk m c 4 t))) (regAt m c (t.val / 64) (t.val % 64 - 1)) := by
  obtain ⟨j, hj⟩ : ∃ j, t.val % 64 = j + 1 := ⟨t.val % 64 - 1, by omega⟩
  rw [hj]
  show k0_pay5 (k0_pay11 (k0_pay1 (iblk m c 4 (pt (t.val / 64) (j + 1))))) _ = _
  rw [pt_eq t (by omega)]; rfl

/-! ## The four cases -/

/-- The first point of a first pass. -/
theorem sound_A (c : Dev nD) (t : Fin cfg0.N) (h : t.val % 64 = 0) :
    bodyPre m c t ⊢ wp frame (wpE (defs₀ (F := F)) Variants.none c none) Set.univ (bodyAt0 t) (fun _ => bodyPost m c t) :=
  sound_of m c t fun d5 d6 d7 d8 a e ha he => by
    have hp : pt (t.val / 64) 0 = t := pt_eq t (by omega)
    refine ⟨_, _, _, _, _, _, fun K => runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _)
      ((hcond0_0 t).mpr (by omega)) ((hcond0_1 t).mpr (by omega)) (fun h' => by have := (hcond0_2 t).mp h'; omega)
      (fun h' => by have := (hcond0_3 t).mp h'; omega) (fun h' => by have := (hcond0_4 t).mp h'; omega) _ _ _ _ _ _ _ _ _ _ _ Set.univ K,
      gives_5 m c t d5 (by omega), gives_live m c 6 t d6 _ (by rw [idle_6, decide_eq_false_iff_not]; omega) ?_,
      gives_7 m c t d7 (by omega), gives_8 m c t d8 (by omega), fun _ _ => ?_, fun h' => by omega⟩
    · rw [after_6, h]
      show _ = k0_pay14 (k0_pay1 (iblk m c 4 (pt (t.val / 64) 0)))
      rw [hp]
    · rw [show (t.val + 1) % 64 - 1 = 0 from by omega, show (t.val + 1) / 64 = t.val / 64 from by omega]
      unfold accAt
      rw [hp]

/-- A middle point of a first pass. -/
theorem sound_B (c : Dev nD) (t : Fin cfg0.N) (h1 : 1 ≤ t.val % 64) (h2 : t.val % 64 < 31) :
    bodyPre m c t ⊢ wp frame (wpE (defs₀ (F := F)) Variants.none c none) Set.univ (bodyAt0 t) (fun _ => bodyPost m c t) :=
  sound_of m c t fun d5 d6 d7 d8 a e ha he => by
    refine ⟨_, _, _, _, _, _, fun K => runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _)
      ((hcond0_0 t).mpr (by omega)) (fun h' => by have := (hcond0_1 t).mp h'; omega) ((hcond0_2 t).mpr (by omega))
      (fun h' => by have := (hcond0_3 t).mp h'; omega) (fun h' => by have := (hcond0_4 t).mp h'; omega) _ _ _ _ _ _ _ _ _ _ _ Set.univ K,
      gives_5 m c t d5 (by omega), gives_live m c 6 t d6 _ (by rw [idle_6, decide_eq_false_iff_not]; omega) ?_,
      gives_7 m c t d7 (by omega), gives_8 m c t d8 (by omega), fun _ _ => ?_, fun h' => by omega⟩
    · rw [after_6, before_6 m c t d6 (by omega), show min (t.val % 64 - 1) 31 = t.val % 64 - 1 from by omega,
        show min (t.val % 64) 31 = t.val % 64 from by omega, regAt_step m c t (by omega)]
    · rw [show (t.val + 1) % 64 - 1 = t.val % 64 from by omega, show (t.val + 1) / 64 = t.val / 64 from by omega,
        accAt_step m c t (by omega), ha h1 (by omega)]; rfl

/-- The last point of a first pass. -/
theorem sound_C (c : Dev nD) (t : Fin cfg0.N) (h : t.val % 64 = 31) :
    bodyPre m c t ⊢ wp frame (wpE (defs₀ (F := F)) Variants.none c none) Set.univ (bodyAt0 t) (fun _ => bodyPost m c t) :=
  sound_of m c t fun d5 d6 d7 d8 a e ha he => by
    have hacc : k0_pay4 (errAt m c t) a = accAt m c (t.val / 64) 31 := by
      rw [ha (by omega) (by omega), ← accAt_step m c t (by omega), h]
    refine ⟨_, _, _, _, _, _, fun K => runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _)
      ((hcond0_0 t).mpr (by omega)) (fun h' => by have := (hcond0_1 t).mp h'; omega) ((hcond0_2 t).mpr (by omega))
      ((hcond0_3 t).mpr (by omega)) (fun h' => by have := (hcond0_4 t).mp h'; omega) _ _ _ _ _ _ _ _ _ _ _ Set.univ K,
      gives_live m c 5 t d5 _ (by rw [idle_5, decide_eq_false_iff_not]; omega) ((congrArg k0_pay6 hacc).trans (after_5 m c t).symm),
      gives_live m c 6 t d6 _ (by rw [idle_6, decide_eq_false_iff_not]; omega) ?_,
      gives_live m c 7 t d7 _ (by rw [idle_7, decide_eq_false_iff_not]; omega) ((congrArg k0_pay7 hacc).trans (after_7 m c t).symm),
      gives_8 m c t d8 (by omega), fun _ h' => by omega, fun _ => ?_⟩
    · rw [after_6, before_6 m c t d6 (by omega), show min (t.val % 64 - 1) 31 = t.val % 64 - 1 from by omega,
        show min (t.val % 64) 31 = t.val % 64 from by omega, regAt_step m c t (by omega)]
    · rw [show (t.val + 1) / 64 = t.val / 64 from by omega]
      exact congrArg k0_pay8 hacc

/-- A point of a second pass. -/
theorem sound_D (c : Dev nD) (t : Fin cfg0.N) (h : 32 ≤ t.val % 64) :
    bodyPre m c t ⊢ wp frame (wpE (defs₀ (F := F)) Variants.none c none) Set.univ (bodyAt0 t) (fun _ => bodyPost m c t) :=
  sound_of m c t fun d5 d6 d7 d8 a e ha he => by
    refine ⟨_, _, _, _, _, _, fun K => runD c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _)
      (fun h' => by have := (hcond0_0 t).mp h'; omega) ((hcond0_4 t).mpr (by omega)) _ _ _ _ _ _ _ _ _ _ _ Set.univ K,
      gives_5 m c t d5 (by omega), gives_6 m c t d6 h, gives_7 m c t d7 (by omega),
      gives_live m c 8 t d8 _ (by rw [idle_8, decide_eq_false_iff_not]; omega) ?_, fun h1 h2 => by omega, fun h' => ?_⟩
    · rw [after_8, he h]; rfl
    · rw [he h, show (t.val + 1) / 64 = t.val / 64 from by omega]

/-- Every point is one of the four. -/
theorem sound_body (c : Dev nD) (t : Fin cfg0.N) :
    bodyPre m c t ⊢ wp frame (wpE (defs₀ (F := F)) Variants.none c none) Set.univ (bodyAt0 t) (fun _ => bodyPost m c t) := by
  by_cases h0 : t.val % 64 = 0
  · exact sound_A m c t h0
  by_cases h1 : t.val % 64 < 31
  · exact sound_B m c t (by omega) h1
  by_cases h2 : t.val % 64 = 31
  · exact sound_C m c t h2
  exact sound_D m c t (by omega)

end Cert.KernelIdeal.Step

end
-- ==== Proof.Launch.lean ====
/- The run of the idealized kernel: it ends, its arguments unchanged, every counter at zero, its results as the proof data say. -/
module

public import proofs.«01_k».proof.Proof.Body
public import Idealize.ShloMosaic.Lib.Claim

@[expose] public section

set_option maxRecDepth 16384

noncomputable section

namespace Cert.KernelIdeal.Step

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The body the pipeline calls at a point is the kernel's body on the point's buffers. -/
theorem defs₀_row (t : Fin cfg0.N) : defs₀ (F := F) .tc cfg0.body (cfg0.bodyArgs t (cfg0.slots t)) = bodyAt0 t := by
  unfold defs₀; rw [Defs.onTc_tc]

/-- What the pipeline asks of the body holds at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- Before the first point nothing is asked of what is carried; -/
theorem hin (c : Dev nD) : Pipeline.ΦA spec0 c ⊢ (dats m 0 c).Φ 0 := by
  rw [show (dats m 0 c).Φ 0 = Carry m c 0 from rfl, PhiA0_eq]
  unfold Carry
  iintro ⟨⟨⟨%a, HS0⟩, ⟨%e, HS1⟩⟩, Hg⟩
  isplitl [HS0 HS1]
  · isplitl [HS0]
    · iexists a; isplitr; · ipureintro; exact fun h => absurd h (by decide)
      iexact HS0
    iexists e; isplitr; · ipureintro; exact fun h => absurd h (by decide)
    iexact HS1
  iexact Hg

/-- after the last point nothing is kept of it. -/
theorem hout (c : Dev nD) : (dats m 0 c).Φ (Fin.last cfg0.N) ⊢ Pipeline.ΦA spec0 c := by
  rw [show (dats m 0 c).Φ (Fin.last cfg0.N) = Carry m c cfg0.N from rfl, PhiA0_eq]
  unfold Carry
  iintro ⟨⟨⟨%a, -, HS0⟩, ⟨%e, -, HS1⟩⟩, Hg⟩
  isplitl [HS0 HS1]
  · isplitl [HS0]
    · iexists a; iexact HS0
    iexists e; iexact HS1
  iexact Hg

set_option backward.isDefEq.respectTransparency.types false in
/-- Every execution ends, with every array as the proof data say and every counter at zero. -/
theorem run_quiescent : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The same without the counters. -/
theorem run : θ_run defs (onTc (τ := τ) (main (F := F))) (s₀ m ρ) (Pipeline.FramePost cfgs (dats m) 0 (V m)) :=
  (θ_run defs _ _).mono (fun _ h => h.1) (run_quiescent m ρ)

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run m ρ)) ((θ_run defs _ _).mono (fun _ h => h.2) (run_quiescent m ρ))

end Cert.KernelIdeal.Step

end
-- ==== Proof.Frames.lean ====
/- The frames of the three programs, and the named constants of the kernel's ideal program. -/
module

public import proofs.«01_k».proof.Defs
public import proofs.«01_k».proof.Proof.KernelFrame
public import proofs.«01_k».proof.Proof.Launch
public import proofs.«01_k».proof.Proof.Gen.ReferenceIdeal.Run
public import Idealize.ShloMosaic.Lib.Quiescent

@[expose] public section

noncomputable section

namespace Cert.Proof

open Idealize.ShloMosaic Idealize.SL.Sem

/-- The kernel as compiled: it ends on every run, its arguments unchanged, every counter at zero. -/
theorem frame_p : Cert.quiescent_Kernel := fun m ρ _ => Cert.Kernel.Step.frame m ρ

/-- The kernel's ideal program: it ends on every run, its arguments unchanged, every counter at zero. -/
theorem frame_pi : Cert.quiescent_KernelIdeal := fun m ρ _ => Cert.KernelIdeal.Step.frame m ρ

/-- The reference: it ends on every run, its arguments unchanged; it has no counters. -/
theorem frame_ri : Cert.quiescent_ReferenceIdeal := fun m ρ _ =>
  (θ_run Cert.ReferenceIdeal.defs _ _).mono (fun r h => ⟨fun c => (h c).2.2.2.2,
      sem_eq_zero_of_no_sems (by decide) r.2⟩)
    (Cert.ReferenceIdeal.Value.run (F := Ideal) m ρ)

/-- The three named constants: 3/5, 6/5 and 3/10 are what the f32 words of the kernel stand for. -/
theorem preserves : Cert.preserves_Kernel_KernelIdeal :=
  ⟨IdealRules.named_const.statement _ _ _ _ _ rfl, IdealRules.named_const.statement _ _ _ _ _ rfl,
    IdealRules.named_const.statement _ _ _ _ _ rfl⟩

end Cert.Proof

end
-- ==== Proof.Consts.lean ====
/- The float constants of the two programs, as the real numbers their words denote. -/
module

public import Idealize.ShloMosaic.PureOps.Ideal

@[expose] public section

noncomputable section

namespace Cert.Consts

open Idealize.ShloMosaic

/-- One half. -/
theorem half : Ideal.ofBits .f32 0x3F000000#32 = ((1 / 2 : ℝ) : EReal) := by
  simp [Ideal.ofBits, Ideal.ieee, -EReal.coe_mul]; norm_num
/-- Two. -/
theorem two : Ideal.ofBits .f32 0x40000000#32 = ((2 : ℝ) : EReal) := by
  simp [Ideal.ofBits, Ideal.ieee, -EReal.coe_mul]; norm_num
/-- Five. -/
theorem five : Ideal.ofBits .f32 0x40A00000#32 = ((5 : ℝ) : EReal) := by
  simp [Ideal.ofBits, Ideal.ieee, -EReal.coe_mul]; norm_num
/-- Six. -/
theorem six : Ideal.ofBits .f32 0x40C00000#32 = ((6 : ℝ) : EReal) := by
  simp [Ideal.ofBits, Ideal.ieee, -EReal.coe_mul]; norm_num
/-- Seven, the largest quantized value and the exponent of the penalty's derivative. -/
theorem seven : Ideal.ofBits .f32 0x40E00000#32 = ((7 : ℝ) : EReal) := by
  simp [Ideal.ofBits, Ideal.ieee, -EReal.coe_mul]; norm_num
/-- Eight, the penalty's exponent. -/
theorem eight : Ideal.ofBits .f32 0x41000000#32 = ((8 : ℝ) : EReal) := by
  simp [Ideal.ofBits, Ideal.ieee, -EReal.coe_mul]; norm_num
/-- Ten. -/
theorem ten : Ideal.ofBits .f32 0x41200000#32 = ((10 : ℝ) : EReal) := by
  simp [Ideal.ofBits, Ideal.ieee, -EReal.coe_mul]; norm_num
/-- Minus one. -/
theorem neg_one : Ideal.ofBits .f32 0xBF800000#32 = ((-1 : ℝ) : EReal) := by
  simp [Ideal.ofBits, Ideal.ieee, -EReal.coe_mul]; norm_num
/-- The penalty's weight. -/
theorem weight : Ideal.ofBits .f32 0x38800000#32 = ((1 / 16384 : ℝ) : EReal) := by
  simp [Ideal.ofBits, Ideal.ieee, -EReal.coe_mul]; norm_num
/-- Sixteen times the penalty's weight. -/
theorem weight16 : Ideal.ofBits .f32 0x3A800000#32 = ((1 / 1024 : ℝ) : EReal) := by
  simp [Ideal.ofBits, Ideal.ieee, -EReal.coe_mul]; norm_num
/-- The same, negated. -/
theorem neg_weight16 : Ideal.ofBits .f32 0xBA800000#32 = ((-(1 / 1024) : ℝ) : EReal) := by
  simp [Ideal.ofBits, Ideal.ieee, -EReal.coe_mul]; norm_num

end Cert.Consts

end
-- ==== Proof.Scalars.lean ====
/- The rounding of one weight, over the extended reals: the kernel's spelling, by the hyperbolic tangent of half the rounding
   variable, and the reference's, by its sigmoid, are the same. -/
module

public import proofs.«01_k».proof.Proof.Consts
public import proofs.«01_k».proof.Proof.Gen.KernelIdeal.Skeleton
public import Idealize.ShloMosaic.PureOps.IdealRules

@[expose] public section

noncomputable section

namespace Cert.Scalars

open Idealize.ShloMosaic Cert.Consts

/-! ## The reference's spelling -/

/-- The sigmoid. -/
def sgm (v : EReal) : EReal := Ideal.div 1 (1 + Ideal.exp (-v))
/-- The stretched sigmoid. -/
def str (v : EReal) : EReal :=
  sgm v * Ideal.div (Ideal.ofBits .f32 0x40C00000#32) (Ideal.ofBits .f32 0x40A00000#32)
    + Ideal.div (Ideal.ofBits .f32 0xBF800000#32) (Ideal.ofBits .f32 0x41200000#32)
/-- The soft rounding. -/
def rnd (v : EReal) : EReal := min 1 (max 0 (str v))
/-- Twice the soft rounding, less one. -/
def cen (v : EReal) : EReal := Ideal.ofBits .f32 0x40000000#32 * rnd v - 1

/-! ## The kernel's spelling -/

/-- The hyperbolic tangent of half the variable. -/
def th (v : EReal) : EReal := Ideal.tanh (Ideal.ofBits .f32 0x3F000000#32 * v)
/-- The stretched sigmoid. -/
def kstr (v : EReal) : EReal :=
  Named.named (F := Ideal) Cert.KernelIdeal.κ "half_span" (φ := .f32) 0x3F19999A#32 * th v + Ideal.ofBits .f32 0x3F000000#32
/-- The soft rounding. -/
def krnd (v : EReal) : EReal := min 1 (max 0 (kstr v))
/-- Twice the soft rounding, less one. -/
def kcen (v : EReal) : EReal := Ideal.ofBits .f32 0x40000000#32 * krnd v - 1
/-- The span times the hyperbolic tangent. -/
def spn (v : EReal) : EReal := Named.named (F := Ideal) Cert.KernelIdeal.κ "span" (φ := .f32) 0x3F99999A#32 * th v

/-- Half the span is 3/5, -/
theorem named_half : Named.named (F := Ideal) Cert.KernelIdeal.κ "half_span" (φ := .f32) 0x3F19999A#32 = ((3 / 5 : ℝ) : EReal) :=
  IdealRules.named_const.ideal_named_scalar _ _ _ _ rfl
/-- the span 6/5, -/
theorem named_span : Named.named (F := Ideal) Cert.KernelIdeal.κ "span" (φ := .f32) 0x3F99999A#32 = ((6 / 5 : ℝ) : EReal) :=
  IdealRules.named_const.ideal_named_scalar _ _ _ _ rfl
/-- a quarter of it 3/10. -/
theorem named_quarter : Named.named (F := Ideal) Cert.KernelIdeal.κ "quarter_span" (φ := .f32) 0x3E99999A#32 = ((3 / 10 : ℝ) : EReal) :=
  IdealRules.named_const.ideal_named_scalar _ _ _ _ rfl

/-! ## The two are one -/

/-- The sigmoid by the hyperbolic tangent, on the reals. -/
theorem sigmoid_tanh (x : ℝ) : (1 + Real.exp (-x))⁻¹ = (1 + Real.tanh (1 / 2 * x)) / 2 := by
  have h : Real.exp x = Real.exp (1 / 2 * x) * Real.exp (1 / 2 * x) := by rw [← Real.exp_add]; congr 1; ring
  rw [Real.tanh_eq_sinh_div_cosh, Real.sinh_eq, Real.cosh_eq, Real.exp_neg x, Real.exp_neg (1 / 2 * x), h]
  have := Real.exp_pos (1 / 2 * x)
  field_simp
  ring

/-- Both are real whatever the variable: the hyperbolic tangent is some `r`, the sigmoid half of `1 + r`. -/
theorem th_sgm (v : EReal) : ∃ r : ℝ, th v = (r : EReal) ∧ sgm v = (((1 + r) / 2 : ℝ) : EReal) := by
  have hs : ∀ v, sgm v = Ideal.logistic v := fun _ => rfl
  induction v with
  | bot =>
    refine ⟨-1, ?_, ?_⟩
    · rw [th, half, EReal.coe_mul_bot_of_pos (by norm_num), Ideal.tanh_bot]; rfl
    · rw [hs, Ideal.logistic_bot]; norm_num
  | top =>
    refine ⟨1, ?_, ?_⟩
    · rw [th, half, EReal.coe_mul_top_of_pos (by norm_num), Ideal.tanh_top]; rfl
    · rw [hs, Ideal.logistic_top]; norm_num
  | coe x =>
    refine ⟨Real.tanh (1 / 2 * x), ?_, ?_⟩
    · rw [th, half, ← EReal.coe_mul, Ideal.tanh_coe]
    · rw [hs, Ideal.logistic_coe, sigmoid_tanh]

/-- A quotient of reals. -/
theorem div_real {a b : ℝ} (h : b ≠ 0) : Ideal.div (a : EReal) (b : EReal) = ((a / b : ℝ) : EReal) := by
  rw [Ideal.div_coe h, ← EReal.coe_mul]; congr 1; ring

/-- The stretched sigmoid is 3/5 of the hyperbolic tangent, and one half: in the reference's spelling, -/
theorem str_real {v : EReal} {r : ℝ} (h : sgm v = (((1 + r) / 2 : ℝ) : EReal)) : str v = ((3 / 5 * r + 1 / 2 : ℝ) : EReal) := by
  rw [str, h, six, five, neg_one, ten, div_real (by norm_num), div_real (by norm_num), ← EReal.coe_mul, ← EReal.coe_add]
  congr 1; ring

/-- and in the kernel's. -/
theorem kstr_real {v : EReal} {r : ℝ} (h : th v = (r : EReal)) : kstr v = ((3 / 5 * r + 1 / 2 : ℝ) : EReal) := by
  rw [kstr, h, named_half, half, ← EReal.coe_mul, ← EReal.coe_add]

/-- The stretched sigmoid is the same in both spellings; -/
theorem kstr_eq (v : EReal) : kstr v = str v := by
  obtain ⟨r, h, h'⟩ := th_sgm v
  rw [kstr_real h, str_real h']

/-- so is the soft rounding; -/
theorem krnd_eq (v : EReal) : krnd v = rnd v := by rw [krnd, rnd, kstr_eq]
/-- so is its centred form. -/
theorem kcen_eq (v : EReal) : kcen v = cen v := by rw [kcen, cen, krnd_eq]

/-- The soft rounding is a real number, whatever the variable. -/
theorem rnd_real (v : EReal) : ∃ h : ℝ, rnd v = (h : EReal) := by
  obtain ⟨r, -, h'⟩ := th_sgm v
  refine ⟨min 1 (max 0 (3 / 5 * r + 1 / 2)), ?_⟩
  rw [rnd, str_real h', EReal.coe_strictMono.monotone.map_min, EReal.coe_strictMono.monotone.map_max]
  rfl

/-- So is its centred form. -/
theorem cen_real (v : EReal) : ∃ u : ℝ, cen v = (u : EReal) := by
  obtain ⟨h, e⟩ := rnd_real v
  exact ⟨2 * h - 1, by rw [cen, e, two, ← EReal.coe_mul, EReal.coe_sub]; rfl⟩

/-! ## The penalty -/

/-- The reference's penalty of one weight. -/
def pen (v : EReal) : EReal := 1 - Ideal.pow (max (cen v) (-cen v)) (Ideal.ofBits .f32 0x41000000#32)

/-- The absolute value of a real. -/
theorem abs_coe (u : ℝ) : max (u : EReal) (-(u : EReal)) = ((|u| : ℝ) : EReal) := by
  rw [abs_eq_max_neg, EReal.coe_strictMono.monotone.map_max, EReal.coe_neg]

/-- The penalty is a real number, whatever the variable, and the kernel's product of squares. -/
theorem pen_real (v : EReal) : ∃ u : ℝ, cen v = (u : EReal) ∧ pen v = ((1 - u * u * (u * u) * (u * u * (u * u)) : ℝ) : EReal) := by
  obtain ⟨u, e⟩ := cen_real v
  refine ⟨u, e, ?_⟩
  have h8 : Real.rpow |u| 8 = u * u * (u * u) * (u * u * (u * u)) := by
    show |u| ^ (8 : ℝ) = _
    rw [show (8 : ℝ) = ((8 : ℕ) : ℝ) by norm_num, Real.rpow_natCast, show (8 : ℕ) = 2 * 4 from rfl, pow_mul, sq_abs]; ring
  rw [pen, e, abs_coe, eight, Ideal.pow_coe_coe, h8, EReal.coe_sub]; rfl

/-- The kernel's penalty of one weight is the reference's. -/
theorem kpen_eq (v : EReal) : 1 - kcen v * kcen v * (kcen v * kcen v) * (kcen v * kcen v * (kcen v * kcen v)) = pen v := by
  obtain ⟨u, e, h⟩ := pen_real v
  rw [kcen_eq, h, e, EReal.coe_sub]
  simp only [EReal.coe_mul]; rfl

/-! ## The gradient -/

/-- The gradient at one rounding variable, in the reference's spelling: `G` the error's gradient at the weight, `q` the weight
    plus its rounding, `s` the scale. -/
def dvOne (G q s v : EReal) : EReal :=
  Scalar.select (IntOp.andi (BitVec.ofBool (decide (0 < str v))) (BitVec.ofBool (decide (str v < 1))))
    ((Ideal.ofBits .f32 0xBAAAAAAB#32 * G * s * (if q ≤ Ideal.ofBits .f32 0x40E00000#32 then 1 else 0)
        + Ideal.ofBits .f32 0xBA800000#32 * Ideal.sign (cen v) * Ideal.pow (max (cen v) (-cen v)) (Ideal.ofBits .f32 0x40E00000#32))
      * (Ideal.div (Ideal.ofBits .f32 0x40C00000#32) (Ideal.ofBits .f32 0x40A00000#32) * sgm v * (1 - sgm v))) 0

/-- The same in the kernel's. -/
def kdvOne (G q s v : EReal) : EReal :=
  Scalar.select (IntOp.andi (BitVec.ofBool (decide (0 < kstr v))) (BitVec.ofBool (decide (kstr v < 1))))
    (((if q ≤ Ideal.ofBits .f32 0x40E00000#32 then G * (Ideal.ofBits .f32 0xBAAAAAAB#32 * s) else 0)
        - Ideal.ofBits .f32 0x3A800000#32 * (spn v * spn v * (spn v * spn v) * (spn v * spn v) * spn v))
      * (Named.named (F := Ideal) Cert.KernelIdeal.κ "quarter_span" (φ := .f32) 0x3E99999A#32
        - Named.named (F := Ideal) Cert.KernelIdeal.κ "quarter_span" (φ := .f32) 0x3E99999A#32 * (th v * th v))) 0

/-- The sign of a number times the seventh power of its size is its seventh power. -/
theorem sign_pow (u : ℝ) : (SignType.sign u : ℝ) * Real.rpow |u| 7 = u * u * (u * u) * (u * u) * u := by
  have h7 : Real.rpow |u| 7 = u * u * (u * u) * (u * u) * |u| := by
    show |u| ^ (7 : ℝ) = _
    rw [show (7 : ℝ) = ((7 : ℕ) : ℝ) by norm_num, Real.rpow_natCast, show (7 : ℕ) = 2 * 3 + 1 from rfl, pow_succ, pow_mul, sq_abs]; ring
  rw [h7, mul_left_comm, sign_mul_abs]

/-- The two gradients are one. -/
theorem kdvOne_eq (G q s v : EReal) : kdvOne G q s v = dvOne G q s v := by
  unfold kdvOne dvOne
  rw [kstr_eq]
  by_cases hp : 0 < str v ∧ str v < 1
  swap
  · have hm : IntOp.andi (BitVec.ofBool (decide (0 < str v))) (BitVec.ofBool (decide (str v < 1))) = 0#1 := by
      rcases not_and_or.mp hp with h | h
      · rw [decide_eq_false h]; simp [IntOp.andi]
      · rw [decide_eq_false h]; simp [IntOp.andi]
    rw [hm]; rfl
  obtain ⟨r, h, h'⟩ := th_sgm v
  have hs := str_real h'
  have hc : cen v = ((6 / 5 * r : ℝ) : EReal) := by
    rw [cen, rnd, max_eq_right hp.1.le, min_eq_right hp.2.le, hs, two, ← EReal.coe_mul]
    rw [show (1 : EReal) = ((1 : ℝ) : EReal) from rfl, ← EReal.coe_sub]; congr 1; ring
  have hu : spn v = ((6 / 5 * r : ℝ) : EReal) := by rw [spn, named_span, h, ← EReal.coe_mul]
  rw [hu, h, hc, h', abs_coe, seven, Ideal.pow_coe_coe, Ideal.sign_coe, weight16, neg_weight16, named_quarter, six, five, div_real (by norm_num)]
  have e1 : ((3 / 10 : ℝ) : EReal) - ((3 / 10 : ℝ) : EReal) * ((r : EReal) * (r : EReal))
      = ((6 / 5 : ℝ) : EReal) * (((1 + r) / 2 : ℝ) : EReal) * (1 - (((1 + r) / 2 : ℝ) : EReal)) := by
    rw [show (1 : EReal) = ((1 : ℝ) : EReal) from rfl]
    simp only [← EReal.coe_mul, ← EReal.coe_sub]
    congr 1; ring
  have e2 : ((-(1 / 1024) : ℝ) : EReal) * ((SignType.sign (6 / 5 * r) : ℝ) : EReal) * ((Real.rpow |6 / 5 * r| 7 : ℝ) : EReal)
      = -(((1 / 1024 : ℝ) : EReal) * (((6 / 5 * r : ℝ) : EReal) * ((6 / 5 * r : ℝ) : EReal) * (((6 / 5 * r : ℝ) : EReal) * ((6 / 5 * r : ℝ) : EReal))
        * (((6 / 5 * r : ℝ) : EReal) * ((6 / 5 * r : ℝ) : EReal)) * ((6 / 5 * r : ℝ) : EReal))) := by
    simp only [← EReal.coe_mul, ← EReal.coe_neg]
    rw [mul_assoc, sign_pow]; congr 1; ring
  have e3 : (if q ≤ ((7 : ℝ) : EReal) then G * (Ideal.ofBits .f32 0xBAAAAAAB#32 * s) else 0)
      = Ideal.ofBits .f32 0xBAAAAAAB#32 * G * s * (if q ≤ ((7 : ℝ) : EReal) then 1 else 0) := by
    split
    · rw [mul_one]; ac_rfl
    · rw [mul_zero]
  rw [e1, e2, e3, sub_eq_add_neg]

/-- An integer read as a float does not change when it is widened. -/
theorem sitofp_signExtend (x : BitVec 8) : FloatOps.sitofp (F := Ideal) .f32 (BitVec.signExtend 32 x) = FloatOps.sitofp (F := Ideal) .f32 x := by
  show (((BitVec.signExtend 32 x).toInt : ℝ) : EReal) = ((x.toInt : ℝ) : EReal)
  rw [BitVec.toInt_signExtend_of_le (by norm_num)]

/-- The rounding error of one weight: weight, integer part, scale, rounding variable. -/
def diff (w : EReal) (b : BitVec 8) (s v : EReal) : EReal :=
  w - s * min (Ideal.ofBits .f32 0x40E00000#32) (max (Ideal.ofBits .f32 0xC1000000#32) (FloatOps.sitofp (F := Ideal) .f32 b + rnd v))

/-- The integer part plus the soft rounding. -/
def qsum (b : BitVec 8) (v : EReal) : EReal := FloatOps.sitofp (F := Ideal) .f32 b + rnd v

end Cert.Scalars

end
-- ==== Proof.Block.lean ====
/- What the kernel's body computes from its blocks, read at an index. -/
module

public import proofs.«01_k».proof.Proof.Scalars
public import Idealize.ShloMosaic.Lib.Pointwise

@[expose] public section

set_option maxRecDepth 16384

noncomputable section

namespace Cert.KernelIdeal.Block

open Idealize.ShloMosaic Idealize.ShloMosaic.TcCoe Idealize.SL.Sem
open Cert.KernelIdeal Cert.KernelIdeal.Gen
open Cert.Scalars

variable (x : Vec Ideal S1536x512 .bf16) (w : Vec Ideal S512x256 .f32) (wf : Vec Ideal S512x256 .i8) (s : Vec Ideal S8x256 .f32)
  (v : Vec Ideal S512x256 .f32) (a : Vec Ideal S1536x256 .f32) (e : FVec Ideal S1536x256 .f32) (b : Vec Ideal S1x256 .f32)

/-- A block's share of the error: the sum over its 512 rows of weights. -/
theorem share (i : Fin 1536) (j : Fin 256) : k0_pay12 (k0_pay1 v) (k0_pay2 wf) (k0_pay3 s) w x (ix2 i j)
    = ∑ k : Fin 512, (show EReal from x (ix2 i k)) * diff (w (ix2 k j)) (wf (ix2 k j)) (s (ix2 ⟨k.val / 64, by omega⟩ j)) (v (ix2 k j)) := by
  simp only [diff, ← krnd_eq, krnd, kstr, th]
  pointwise [k0_pay12, k0_pay10, k0_pay1, k0_pay2, k0_pay3]

/-- The first share is what the accumulator is set to. -/
theorem first (i : Fin 1536) (j : Fin 256) : k0_pay13 (k0_pay1 v) (k0_pay2 wf) (k0_pay3 s) w x (ix2 i j)
    = k0_pay12 (k0_pay1 v) (k0_pay2 wf) (k0_pay3 s) w x (ix2 i j) := by
  pointwise [k0_pay13]

/-- A later share is added to it. -/
theorem next (i : Fin 1536) (j : Fin 256) : k0_pay4 e a (ix2 i j) = (show EReal from a (ix2 i j)) + e (ix2 i j) := by
  pointwise [k0_pay4]

/-- The mean square of a column of the accumulator. -/
theorem mean (j : Fin 256) : k0_pay6 a (ix2 0 j)
    = Ideal.div (∑ i : Fin 1536, (show EReal from a (ix2 i j)) * (show EReal from a (ix2 i j))) (Ideal.ofBits .f32 0x44C00000#32) := by
  pointwise [k0_pay6]

/-- The narrow error is the accumulator. -/
theorem narrow (i : Fin 1536) (j : Fin 256) : k0_pay7 a (ix2 i j) = (show EReal from a (ix2 i j)) := by
  pointwise [k0_pay7]

/-- A block's penalty, column by column. -/
theorem penalty (j : Fin 256) : k0_pay11 (k0_pay1 v) (ix2 0 j) = ∑ k : Fin 512, pen (v (ix2 k j)) := by
  simp only [← kpen_eq, kcen, krnd, kstr, th]
  pointwise [k0_pay11, k0_pay10, k0_pay1]

/-- The first block's penalty, weighted, is what the penalty is set to. -/
theorem firstPenalty (j : Fin 256) : k0_pay14 (k0_pay1 v) (ix2 0 j) = Ideal.ofBits .f32 0x38800000#32 * k0_pay11 (k0_pay1 v) (ix2 0 j) := by
  pointwise [k0_pay14]

/-- A later block's is added to it. -/
theorem nextPenalty (j : Fin 256) : k0_pay5 (k0_pay11 (k0_pay1 v)) b (ix2 0 j)
    = (show EReal from b (ix2 0 j)) + Ideal.ofBits .f32 0x38800000#32 * k0_pay11 (k0_pay1 v) (ix2 0 j) := by
  pointwise [k0_pay5]

/-- A block's gradient. -/
theorem gradient (k : Fin 512) (j : Fin 256) :
    k0_pay9 (k0_pay16 (k0_pay1 v)) (k0_pay17 (k0_pay1 v) (k0_pay2 wf) (k0_pay3 s) x (k0_pay8 a)) (k0_pay18 (k0_pay1 v)) k0_pay19 (ix2 k j)
    = dvOne (∑ i : Fin 1536, (show EReal from x (ix2 i k)) * a (ix2 i j)) (qsum (wf (ix2 k j)) (v (ix2 k j)))
        (s (ix2 ⟨k.val / 64, by omega⟩ j)) (v (ix2 k j)) := by
  rw [← kdvOne_eq, Finset.sum_congr rfl fun i _ => mul_comm (show EReal from x (ix2 i k)) (show EReal from a (ix2 i j))]
  simp only [kdvOne, qsum, ← krnd_eq, krnd, kstr, spn, th]
  pointwise [k0_pay9, k0_pay16, k0_pay17, k0_pay18, k0_pay19, k0_pay15, k0_pay8, k0_pay7, k0_pay10, k0_pay1, k0_pay2, k0_pay3]

end Cert.KernelIdeal.Block

end
-- ==== Proof.Reads.lean ====
/- The blocks a point of the grid reads, as parts of the arguments. -/
module

public import proofs.«01_k».proof.Proof.Data
public import proofs.«01_k».proof.Proof.Block
public import Idealize.ShloMosaic.Lib.Claim
public import Idealize.ShloMosaic.Lib.Pipeline.ValueKit

@[expose] public section

set_option maxRecDepth 16384

noncomputable section

namespace Cert.KernelIdeal.Step

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- The five arguments: the activations, -/
abbrev argX (c : Dev nD) : FVec Ideal S2x768x16384 .bf16 := m ((c : Thread nD τ).loc main_arg0)
/-- the weights, -/
abbrev argW (c : Dev nD) : FVec Ideal S16384x5120 .f32 := m ((c : Thread nD τ).loc main_arg1)
/-- their integer parts, -/
abbrev argB (c : Dev nD) : IVec S16384x5120 8 := m ((c : Thread nD τ).loc main_arg2)
/-- the scales, -/
abbrev argS (c : Dev nD) : FVec Ideal S256x5120 .f32 := m ((c : Thread nD τ).loc main_arg3)
/-- the rounding variables. -/
abbrev argV (c : Dev nD) : FVec Ideal S16384x5120 .f32 := m ((c : Thread nD τ).loc main_arg4)

/-- Where each window's block stands at each point. -/
theorem idx : ∀ t : Fin cfg0.N, win0_0.index t = ![0, 0] ∧ win0_1.index t = ![min (t.val % 64) 31, t.val / 64]
    ∧ win0_2.index t = ![t.val % 32, t.val / 64] ∧ win0_3.index t = ![t.val % 32, t.val / 64] ∧ win0_4.index t = ![t.val % 32, t.val / 64]
    ∧ win0_5.index t = ![0, t.val / 64] ∧ win0_6.index t = ![0, t.val / 64] ∧ win0_7.index t = ![0, t.val / 64]
    ∧ win0_8.index t = ![if t.val % 64 < 32 then 0 else t.val % 32, t.val / 64] ∧ (grid0.coords t 2).val = t.val % 32 :=
  (by decide +kernel : ∀ t : Fin grid0.N, _)

/-- Row `k` of a point's block of rows, in the whole. -/
abbrev row (t : Fin cfg0.N) (k : Fin 512) : Fin 16384 := ⟨512 * (t.val % 32) + k.val, by omega⟩
/-- Column `j` of a point's column block, in the whole. -/
abbrev col (t : Fin cfg0.N) (j : Fin 256) : Fin 5120 := ⟨256 * (t.val / 64) + j.val, by have := lt_N t; omega⟩

/-- The activations' columns at a point. -/
theorem read_x (c : Dev nD) (t : Fin cfg0.N) (i : Fin 1536) (k : Fin 512) : xk (grid0.coords t) (iblk m c 0 t) (ix2 i k)
    = argX m c (ix3 ⟨i.val / 768, by omega⟩ ⟨i.val % 768, by omega⟩ (row t k)) := by
  have h : ∀ y : S1536x16384.Idx, iblk m c 0 t y = argX m c (ix3 ⟨(y 0).val / 768, by idx_bounds; omega⟩ ⟨(y 0).val % 768, by omega⟩ (y 1)) := fun y => by
    blk_simp [iblk, idx t]
    entry_read
    pointwise
    blk_ext [idx t]
  have h2 := (idx t).2.2.2.2.2.2.2.2.2
  have e : (Rect.unit (s := S1536x16384) ![0, 512 * (grid0.coords t 2).val] S1536x512.size (xk_inb (grid0.coords t))).emb (ix2 i k) = ix2 i (row t k) := by
    funext a
    refine Fin.ext ?_
    fin_cases a
    · show 0 + 1 * i.val = i.val
      omega
    · show 512 * (grid0.coords t 2).val + 1 * k.val = 512 * (t.val % 32) + k.val
      rw [h2]; omega
  exact (congrArg (iblk m c 0 t) e).trans (h (ix2 i (row t k)))

/-- The weights' block, in the first pass. -/
theorem read_w (c : Dev nD) (t : Fin cfg0.N) (ht : t.val % 64 < 32) (k : Fin 512) (j : Fin 256) :
    iblk m c 1 t (ix2 k j) = argW m c (ix2 (row t k) (col t j)) := by
  have h : min (t.val % 64) 31 = t.val % 32 := by omega
  blk_ext [iblk, V, idx t]

/-- The integer parts' block. -/
theorem read_b (c : Dev nD) (t : Fin cfg0.N) (k : Fin 512) (j : Fin 256) : iblk m c 2 t (ix2 k j) = argB m c (ix2 (row t k) (col t j)) := by
  blk_ext [iblk, V, idx t]

/-- The scales' block. -/
theorem read_s (c : Dev nD) (t : Fin cfg0.N) (k : Fin 512) (j : Fin 256) :
    iblk m c 3 t (ix2 ⟨k.val / 64, by omega⟩ j) = argS m c (ix2 ⟨(row t k).val / 64, by omega⟩ (col t j)) := by
  blk_ext [iblk, V, idx t]

/-- The rounding variables' block. -/
theorem read_v (c : Dev nD) (t : Fin cfg0.N) (k : Fin 512) (j : Fin 256) : iblk m c 4 t (ix2 k j) = argV m c (ix2 (row t k) (col t j)) := by
  blk_ext [iblk, V, idx t]

end Cert.KernelIdeal.Step

end
-- ==== Proof.RefTerms.lean ====
/- What the reference computes: its four results as terms over its arguments, each read at an index. -/
module

public import proofs.«01_k».proof.Proof.Gen.ReferenceIdeal.Run
public import Idealize.ShloMosaic.Lib.Pointwise

@[expose] public section

set_option maxRecDepth 16384

noncomputable section

namespace Cert.ReferenceIdeal.Term

open Idealize.ShloMosaic Idealize.ShloMosaic.TcCoe Idealize.SL.Sem
open Cert.ReferenceIdeal Cert.ReferenceIdeal.Gen

variable (X : FVec Ideal S2x768x16384 .bf16) (W : FVec Ideal S16384x5120 .f32) (WF : IVec S16384x5120 8) (S : FVec Ideal S256x5120 .f32)
  (V : FVec Ideal S16384x5120 .f32)

/-- A constant on every element of the grouped weights. -/
abbrev all (b : BitVec 32) : FVec Ideal S256x64x5120 .f32 := broadcastInDim S256x64x5120 ![] bcast_S_S256x64x5120 (constant (F := Ideal) S_ .f32 b)

/-- The quotient of two constants on every element of the grouped weights. -/
abbrev allQ (b b' : BitVec 32) : FVec Ideal S256x64x5120 .f32 :=
  broadcastInDim S256x64x5120 ![] bcast_S_S256x64x5120 (Host.divf (constant (F := Ideal) S_ .f32 b) (constant S_ .f32 b'))

/-- The sigmoid of the rounding variable. -/
def sgm : FVec Ideal S256x64x5120 .f32 :=
  Host.divf (all 0x3F800000#32) (addf (all 0x3F800000#32) (Host.exp (Host.negf (shapeCast _ V shapeCasts_S16384x5120_S256x64x5120))))

/-- The stretched sigmoid. -/
def str : FVec Ideal S256x64x5120 .f32 :=
  addf (mulf (sgm V) (allQ 0x40C00000#32 0x40A00000#32)) (allQ 0xBF800000#32 0x41200000#32)

/-- The soft rounding: the stretched sigmoid clipped to [0, 1]. -/
def rnd : FVec Ideal S256x64x5120 .f32 := minimumf (all 0x3F800000#32) (maximumf (all 0x00000000#32) (str V))

/-- The integer weights plus the soft rounding. -/
def qsum : FVec Ideal S256x64x5120 .f32 :=
  addf (sitofp .f32 (extsi 32 (shapeCast _ WF shapeCasts_S16384x5120_S256x64x5120) natLt_8_32)) (rnd V)

/-- The scales, one per group of rows, on every element of the grouped weights. -/
def scale : FVec Ideal S256x64x5120 .f32 :=
  broadcastInDim S256x64x5120 ![0, 1, 2] bcast_S256x1x5120_S256x64x5120_0_1_2 (broadcastInDim S256x1x5120 ![0, 2] bcast_S256x5120_S256x1x5120_0_2 S)

/-- The rounding error of the weights. -/
def diff : FVec Ideal S16384x5120 .bf16 :=
  shapeCast _ (truncf .bf16 (subf (shapeCast _ W shapeCasts_S16384x5120_S256x64x5120)
    (mulf (scale S) (minimumf (all 0x40E00000#32) (maximumf (all 0xC1000000#32) (qsum WF V))))) bitsLt_bf16_f32) shapeCasts_S256x64x5120_S16384x5120

/-- The error of the layer's result. -/
def err : FVec Ideal S1536x5120 .f32 :=
  Host.dotGeneral dot_S1536x16384_S16384x5120_S1536x5120_1_0_0_1_n_n none (shapeCast S1536x16384 X shapeCasts_S2x768x16384_S1536x16384) (diff W WF S V)

/-- The mean square of the error, column by column. -/
def recon : FVec Ideal S1x5120 .f32 :=
  shapeCast _ (Host.divf (Host.reduceAdd (mulf (err X W WF S V) (err X W WF S V)) (constant S_ .f32 0x00000000#32) reducesTo_S1536x5120_S5120_d0 h_S_)
    (broadcastInDim S5120 ![] bcast_S_S5120 (constant S_ .f32 0x44C00000#32))) shapeCasts_S5120_S1x5120

/-- Twice the soft rounding, less one. -/
def cen : FVec Ideal S256x64x5120 .f32 := subf (mulf (all 0x40000000#32) (rnd V)) (all 0x3F800000#32)

/-- The rounding penalty, column by column. -/
def reg : FVec Ideal S1x5120 .f32 :=
  shapeCast _ (mulf (broadcastInDim S5120 ![] bcast_S_S5120 (constant S_ .f32 0x38800000#32))
    (Host.reduceAdd (shapeCast _ (subf (all 0x3F800000#32) (Host.powf (Host.absf (cen V)) (all 0x41000000#32))) shapeCasts_S256x64x5120_S16384x5120)
      (constant S_ .f32 0x00000000#32) reducesTo_S16384x5120_S5120_d0 h_S_)) shapeCasts_S5120_S1x5120

/-- The error in the narrow format. -/
def errB : FVec Ideal S1536x5120 .bf16 := truncf .bf16 (err X W WF S V) bitsLt_bf16_f32

/-- The gradient of the error's square at the rounded weights. -/
def grad : FVec Ideal S16384x5120 .f32 :=
  Host.dotGeneral dot_S1536x16384_S1536x5120_S16384x5120_0_0_1_1_n_n none (shapeCast S1536x16384 X shapeCasts_S2x768x16384_S1536x16384) (errB X W WF S V)

/-- The derivative of the soft rounding. -/
def slope : FVec Ideal S256x64x5120 .f32 :=
  select (andi (cmpf .ogt (str V) (all 0x00000000#32)) (cmpf .olt (str V) (all 0x3F800000#32)))
    (mulf (mulf (allQ 0x40C00000#32 0x40A00000#32) (sgm V)) (subf (all 0x3F800000#32) (sgm V))) (all 0x00000000#32)

/-- The gradient at the rounding variable. -/
def dv : FVec Ideal S16384x5120 .f32 :=
  shapeCast _ (mulf (addf (mulf (mulf (mulf (all 0xBAAAAAAB#32) (shapeCast _ (grad X W WF S V) shapeCasts_S16384x5120_S256x64x5120)) (scale S))
      (select (cmpf .ole (qsum WF V) (all 0x40E00000#32)) (all 0x3F800000#32) (all 0x00000000#32)))
    (mulf (mulf (all 0xBA800000#32) (Host.sign (cen V))) (Host.powf (Host.absf (cen V)) (all 0x40E00000#32)))) (slope V)) shapeCasts_S256x64x5120_S16384x5120

set_option maxHeartbeats 1000000 in
/-- Every run of the reference ends with these four results, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v77) = recon (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v78) = reg (m ((c.tc : Thread nD τ).loc main_arg4))
      ∧ r.2.mem ((c.tc : Thread nD τ).loc main_v45) = errB (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v76) = dv (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Cert.ReferenceIdeal.Value.run (F := Ideal) m ρ

end Cert.ReferenceIdeal.Term

end
-- ==== Proof.RefAt.lean ====
/- The reference's four results, read at an index. -/
module

public import proofs.«01_k».proof.Proof.RefTerms
public import proofs.«01_k».proof.Proof.Scalars

@[expose] public section

set_option maxRecDepth 16384

noncomputable section

namespace Cert.ReferenceIdeal.Term

open Idealize.ShloMosaic Idealize.ShloMosaic.TcCoe Idealize.SL.Sem
open Cert.ReferenceIdeal Cert.ReferenceIdeal.Gen

variable (X : FVec Ideal S2x768x16384 .bf16) (W : FVec Ideal S16384x5120 .f32) (WF : IVec S16384x5120 8) (S : FVec Ideal S256x5120 .f32)
  (V : FVec Ideal S16384x5120 .f32)

/-- The rounding error of one weight. -/
theorem diff_at (k : Fin 16384) (j : Fin 5120) : diff W WF S V (ix2 k j)
    = Scalars.diff (W (ix2 k j)) (WF (ix2 k j)) (S (ix2 ⟨k.val / 64, by omega⟩ j)) (V (ix2 k j)) := by
  simp only [Scalars.diff, Scalars.rnd, Scalars.str, Scalars.sgm, ← Scalars.sitofp_signExtend]
  pointwise [diff, scale, qsum, rnd, str, sgm]

/-- The error: a sum over all the rows of weights. -/
theorem err_at (i : Fin 1536) (j : Fin 5120) : err X W WF S V (ix2 i j)
    = ∑ k : Fin 16384, X (ix3 ⟨i.val / 768, by omega⟩ ⟨i.val % 768, by omega⟩ k)
        * Scalars.diff (W (ix2 k j)) (WF (ix2 k j)) (S (ix2 ⟨k.val / 64, by omega⟩ j)) (V (ix2 k j)) := by
  simp only [← diff_at]
  pointwise [err]

/-- The narrow error is the error. -/
theorem errB_at (i : Fin 1536) (j : Fin 5120) : errB X W WF S V (ix2 i j) = err X W WF S V (ix2 i j) := by
  pointwise [errB]

/-- The mean square. -/
theorem recon_at (j : Fin 5120) : recon X W WF S V (ix2 0 j)
    = Ideal.div (∑ i : Fin 1536, err X W WF S V (ix2 i j) * err X W WF S V (ix2 i j)) (Ideal.ofBits .f32 0x44C00000#32) := by
  pointwise [recon]

/-- The penalty. -/
theorem reg_at (j : Fin 5120) : reg V (ix2 0 j) = Ideal.ofBits .f32 0x38800000#32 * ∑ k : Fin 16384, Scalars.pen (V (ix2 k j)) := by
  simp only [Scalars.pen, Scalars.cen, Scalars.rnd, Scalars.str, Scalars.sgm]
  pointwise [reg, cen, rnd, str, sgm]
  rfl

/-- The gradient. -/
theorem dv_at (k : Fin 16384) (j : Fin 5120) : dv X W WF S V (ix2 k j)
    = Scalars.dvOne (∑ i : Fin 1536, X (ix3 ⟨i.val / 768, by omega⟩ ⟨i.val % 768, by omega⟩ k) * err X W WF S V (ix2 i j))
        (Scalars.qsum (WF (ix2 k j)) (V (ix2 k j))) (S (ix2 ⟨k.val / 64, by omega⟩ j)) (V (ix2 k j)) := by
  simp only [Scalars.dvOne, Scalars.qsum, Scalars.cen, Scalars.rnd, Scalars.str, Scalars.sgm, ← Scalars.sitofp_signExtend, ← errB_at]
  pointwise [dv, grad, slope, scale, cen, qsum, rnd, str, sgm]
  rfl

end Cert.ReferenceIdeal.Term

end
-- ==== Proof.Sums.lean ====
/- What the column blocks accumulate: the error and the penalty, as the reference's sums over all the rows of weights. -/
module

public import proofs.«01_k».proof.Proof.Reads
public import proofs.«01_k».proof.Proof.RefAt

@[expose] public section

set_option maxRecDepth 16384

noncomputable section

namespace Cert.KernelIdeal.Step

open Idealize.ShloMosaic Idealize.ShloMosaic.TcCoe Idealize.SL.Sem
open Cert.KernelIdeal Cert.KernelIdeal.Gen

variable (m : (ℓ : Loc nD τ sig) → Buf (Elt Ideal) ℓ)

/-- The reference's error of the kernel's arguments. -/
abbrev refErr (c : Dev nD) : FVec Ideal S1536x5120 .f32 := Cert.ReferenceIdeal.Term.err (argX m c) (argW m c) (argB m c) (argS m c) (argV m c)

/-- Column `j` of column block `b`. -/
abbrev colOf (b : Fin 20) (j : Fin 256) : Fin 5120 := ⟨256 * b.val + j.val, by omega⟩

/-- One row's term of the error. -/
def term (c : Dev nD) (i : Fin 1536) (n : Fin 5120) (k : Fin 16384) : EReal :=
  argX m c (ix3 ⟨i.val / 768, by omega⟩ ⟨i.val % 768, by omega⟩ k)
    * Scalars.diff (argW m c (ix2 k n)) (argB m c (ix2 k n)) (argS m c (ix2 ⟨k.val / 64, by omega⟩ n)) (argV m c (ix2 k n))

/-- Row `k` of block of rows `q`. -/
abbrev rowOf (q : Fin 32) (k : Fin 512) : Fin 16384 := ⟨q.val * 512 + k.val, by omega⟩

/-- Point `q` of a column block's first pass. -/
theorem pt_val (b : Fin 20) (q : Fin 32) : (pt b.val q.val).val = 64 * b.val + q.val := by
  show (64 * b.val + q.val) % 1280 = _
  omega

/-- A point's share of the error is its 512 rows' terms. -/
theorem errAt_at (c : Dev nD) (b : Fin 20) (q : Fin 32) (i : Fin 1536) (j : Fin 256) :
    errAt m c (pt b.val q.val) (ix2 i j) = ∑ k : Fin 512, term m c i (colOf b j) (rowOf q k) := by
  have hp := pt_val b q
  rw [errAt, Block.share]
  refine Finset.sum_congr rfl fun k _ => ?_
  have hr : row (pt b.val q.val) k = rowOf q k := Fin.ext (by show 512 * ((pt b.val q.val).val % 32) + k.val = q.val * 512 + k.val; omega)
  have hc : col (pt b.val q.val) j = colOf b j := Fin.ext (by show 256 * ((pt b.val q.val).val / 64) + j.val = 256 * b.val + j.val; omega)
  rw [read_x, read_w m c _ (by omega), read_b, read_s, read_v]
  exact congrArg₂ (term m c i) hc hr

/-- The accumulator after a point of the first pass: the sum of the shares so far. -/
theorem accAt_at (c : Dev nD) (b : Fin 20) (i : Fin 1536) (j : Fin 256) : ∀ q : ℕ, ∀ h : q < 32,
    accAt m c b.val q (ix2 i j) = ∑ p : Fin (q + 1), ∑ k : Fin 512, term m c i (colOf b j) (rowOf ⟨p.val, by omega⟩ k)
  | 0, h => by
    rw [Fin.sum_univ_one]
    refine Eq.trans ?_ (errAt_at m c b 0 i j)
    rw [accAt, Block.first]
    rfl
  | q + 1, h => by
    rw [Fin.sum_univ_castSucc]
    refine Eq.trans ?_ (congrArg₂ (· + ·) (accAt_at c b i j q (by omega)) (errAt_at m c b ⟨q + 1, h⟩ i j))
    rw [accAt, Block.next]

/-- After its first pass a column block's accumulator is the reference's error. -/
theorem acc_err (c : Dev nD) (b : Fin 20) (i : Fin 1536) (j : Fin 256) : accAt m c b.val 31 (ix2 i j) = refErr m c (ix2 i (colOf b j)) := by
  rw [accAt_at m c b i j 31 (by omega)]
  exact (Fin.sum_univ_tiles 32 512 rfl (term m c i (colOf b j))).symm.trans
    (Cert.ReferenceIdeal.Term.err_at (argX m c) (argW m c) (argB m c) (argS m c) (argV m c) i (colOf b j)).symm

/-- The penalty of a point's 512 rows. -/
theorem penalty_at (c : Dev nD) (b : Fin 20) (q : Fin 32) (j : Fin 256) :
    k0_pay11 (k0_pay1 (iblk m c 4 (pt b.val q.val))) (ix2 0 j) = ∑ k : Fin 512, Scalars.pen (argV m c (ix2 (rowOf q k) (colOf b j))) := by
  have hp := pt_val b q
  rw [Block.penalty]
  refine Finset.sum_congr rfl fun k _ => ?_
  have hr : row (pt b.val q.val) k = rowOf q k := Fin.ext (by show 512 * ((pt b.val q.val).val % 32) + k.val = q.val * 512 + k.val; omega)
  have hc : col (pt b.val q.val) j = colOf b j := Fin.ext (by show 256 * ((pt b.val q.val).val / 64) + j.val = 256 * b.val + j.val; omega)
  rw [read_v, hr, hc]

/-- A nonnegative real times a sum is the sum of its products, whatever the terms. -/
theorem coe_mul_sum {r : ℝ} (hr : 0 ≤ r) {n : ℕ} (f : Fin n → EReal) : (r : EReal) * ∑ k, f k = ∑ k, (r : EReal) * f k := by
  induction n with
  | zero => simp
  | succ n ih =>
    rw [Fin.sum_univ_castSucc, Fin.sum_univ_castSucc, EReal.left_distrib_of_nonneg_of_ne_top (by exact_mod_cast hr) (EReal.coe_ne_top r), ih]

/-- The penalty after a point of the first pass: the weighted penalties so far. -/
theorem regAt_at (c : Dev nD) (b : Fin 20) (j : Fin 256) : ∀ q : ℕ, ∀ h : q < 32,
    regAt m c b.val q (ix2 0 j)
      = ∑ p : Fin (q + 1), Ideal.ofBits .f32 0x38800000#32 * ∑ k : Fin 512, Scalars.pen (argV m c (ix2 (rowOf ⟨p.val, by omega⟩ k) (colOf b j)))
  | 0, h => by
    rw [Fin.sum_univ_one]
    refine Eq.trans ?_ (congrArg (Ideal.ofBits .f32 0x38800000#32 * ·) (penalty_at m c b 0 j))
    rw [regAt, Block.firstPenalty]
    rfl
  | q + 1, h => by
    rw [Fin.sum_univ_castSucc]
    refine Eq.trans ?_ (congrArg₂ (· + ·) (regAt_at c b j q (by omega)) (congrArg (Ideal.ofBits .f32 0x38800000#32 * ·) (penalty_at m c b ⟨q + 1, h⟩ j)))
    rw [regAt, Block.nextPenalty]

/-- After its first pass a column block's penalty is the reference's. -/
theorem reg_ref (c : Dev nD) (b : Fin 20) (j : Fin 256) :
    regAt m c b.val 31 (ix2 0 j) = Cert.ReferenceIdeal.Term.reg (argV m c) (ix2 0 (colOf b j)) := by
  rw [regAt_at m c b j 31 (by omega), Cert.ReferenceIdeal.Term.reg_at, Consts.weight,
    Fin.sum_univ_tiles 32 512 rfl (fun k => Scalars.pen (argV m c (ix2 k (colOf b j)))), coe_mul_sum (by norm_num)]

/-- The mean square of a column block's accumulator is the reference's. -/
theorem recon_ref (c : Dev nD) (b : Fin 20) (j : Fin 256) : k0_pay6 (accAt m c b.val 31) (ix2 0 j)
    = Cert.ReferenceIdeal.Term.recon (argX m c) (argW m c) (argB m c) (argS m c) (argV m c) (ix2 0 (colOf b j)) := by
  rw [Block.mean, Cert.ReferenceIdeal.Term.recon_at]
  simp only [acc_err]

/-- The narrow error of a column block is the reference's. -/
theorem errB_ref (c : Dev nD) (b : Fin 20) (i : Fin 1536) (j : Fin 256) : k0_pay7 (accAt m c b.val 31) (ix2 i j)
    = Cert.ReferenceIdeal.Term.errB (argX m c) (argW m c) (argB m c) (argS m c) (argV m c) (ix2 i (colOf b j)) := by
  rw [Block.narrow, Cert.ReferenceIdeal.Term.errB_at]
  exact acc_err m c b i j

/-- The gradient a point of a second pass stores is the reference's. -/
theorem dv_ref (c : Dev nD) (t : Fin cfg0.N) (k : Fin 512) (j : Fin 256) : dvAt m c t (ix2 k j)
    = Cert.ReferenceIdeal.Term.dv (argX m c) (argW m c) (argB m c) (argS m c) (argV m c) (ix2 (row t k) (col t j)) := by
  have ht := lt_N t
  rw [dvAt, Block.gradient, Cert.ReferenceIdeal.Term.dv_at, read_b, read_s, read_v]
  have h : ∀ i : Fin 1536, accAt m c (t.val / 64) 31 (ix2 i j) = refErr m c (ix2 i (col t j)) := fun i => acc_err m c ⟨t.val / 64, by omega⟩ i j
  simp only [read_x, h]

end Cert.KernelIdeal.Step

end
-- ==== Proof.Finals.lean ====
/- The four result arrays after the run: the reference's, of the same arguments. -/
module

public import proofs.«01_k».proof.Proof.Sums
public import proofs.«01_k».proof.Proof.Launch

@[expose] public section

set_option maxRecDepth 16384

noncomputable section

namespace Cert.KernelIdeal.Step

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- The mean squares. -/
theorem final_5 (c : Dev nD) : (dats m 0 c).arrAt 5 (cfgs 0).N
    = Cert.ReferenceIdeal.Term.recon (argX m c) (argW m c) (argB m c) (argS m c) (argV m c) := by
  refine (dats m 0 c).arrAt_eq_of_covers 5 _ (by decide +kernel) fun t hf y => ?_
  have ht := lt_N t
  blk_simp
  rw [after_5]
  idx_vars y
  obtain rfl : y0 = 0 := Subsingleton.elim _ _
  refine (recon_ref m c ⟨t.val / 64, by omega⟩ y1).trans ?_
  blk_ext [idx t]

/-- The penalties. -/
theorem final_6 (c : Dev nD) : (dats m 0 c).arrAt 6 (cfgs 0).N = Cert.ReferenceIdeal.Term.reg (argV m c) := by
  refine (dats m 0 c).arrAt_eq_of_covers 6 _ (by decide +kernel) fun t hf y => ?_
  have ht := lt_N t
  have hf' : t.val % 64 = 63 := of_decide_eq_true ((flush_6 t).symm.trans hf)
  blk_simp
  rw [after_6, show min (t.val % 64) 31 = 31 from by omega]
  idx_vars y
  obtain rfl : y0 = 0 := Subsingleton.elim _ _
  refine (reg_ref m c ⟨t.val / 64, by omega⟩ y1).trans (congrArg (Cert.ReferenceIdeal.Term.reg (argV m c)) ?_)
  blk_ext [idx t]

/-- The error. -/
theorem final_7 (c : Dev nD) : (dats m 0 c).arrAt 7 (cfgs 0).N
    = Cert.ReferenceIdeal.Term.errB (argX m c) (argW m c) (argB m c) (argS m c) (argV m c) := by
  refine (dats m 0 c).arrAt_eq_of_covers 7 _ (by decide +kernel) fun t hf y => ?_
  have ht := lt_N t
  blk_simp
  rw [after_7]
  idx_vars y
  refine (errB_ref m c ⟨t.val / 64, by omega⟩ y0 y1).trans
    (congrArg (Cert.ReferenceIdeal.Term.errB (argX m c) (argW m c) (argB m c) (argS m c) (argV m c)) ?_)
  blk_ext [idx t]

/-- The gradient. -/
theorem final_8 (c : Dev nD) : (dats m 0 c).arrAt 8 (cfgs 0).N
    = Cert.ReferenceIdeal.Term.dv (argX m c) (argW m c) (argB m c) (argS m c) (argV m c) := by
  refine (dats m 0 c).arrAt_eq_of_covers 8 _ (by decide +kernel) fun t hf y => ?_
  have hm : ¬ t.val % 64 < 32 := fun h => absurd hf (by rw [flush_8 t h]; decide)
  have h8 : win0_8.index t = ![t.val % 32, t.val / 64] := by rw [(idx t).2.2.2.2.2.2.2.2.1, if_neg hm]
  blk_simp
  rw [after_8]
  idx_vars y
  refine (dv_ref m c t y0 y1).trans ?_
  blk_ext [h8]

/-- Every run ends with the reference's four results of the kernel's arguments, and the arguments unchanged. -/
theorem values (ρ : Dev nD → PrngReg) : θ_run defs (onTc (τ := τ) (main (F := Ideal))) ⟨m, fun _ => 0, ρ⟩ (fun r => ∀ c : Dev nD,
      r.2.mem ((c.tc : Thread nD τ).loc main_v1_0) = Cert.ReferenceIdeal.Term.recon (argX m c) (argW m c) (argB m c) (argS m c) (argV m c)
      ∧ r.2.mem ((c.tc : Thread nD τ).loc main_v1_1) = Cert.ReferenceIdeal.Term.reg (argV m c)
      ∧ r.2.mem ((c.tc : Thread nD τ).loc main_v1_2) = Cert.ReferenceIdeal.Term.errB (argX m c) (argW m c) (argB m c) (argS m c) (argV m c)
      ∧ r.2.mem ((c.tc : Thread nD τ).loc main_v1_3) = Cert.ReferenceIdeal.Term.dv (argX m c) (argW m c) (argB m c) (argS m c) (argV m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine θ_run_mono (θ_run_and (run m ρ) (frame m ρ)) ?_
  rintro r ⟨h, hfr, -⟩ c
  exact ⟨((h c).1 5).trans (final_5 m c), ((h c).1 6).trans (final_6 m c), ((h c).1 7).trans (final_7 m c), ((h c).1 8).trans (final_8 m c), hfr c⟩

end Cert.KernelIdeal.Step

end
-- ==== Proof.lean ====
module

public import proofs.«01_k».proof.Proof.Frames
public import proofs.«01_k».proof.Proof.Finals

@[expose] public section

noncomputable section

namespace Cert.Proof

open Idealize.ShloMosaic Idealize.ShloMosaic.TcCoe Idealize.SL.Sem

/-- From equal arguments the kernel's ideal program and the reference end with equal results, all four of them. -/
theorem algebraic : Cert.algebraic_KernelIdeal_ReferenceIdeal := fun m g m' g' _ hagree =>
  ⟨_, _, _, _, Cert.KernelIdeal.Step.values m g, by
    refine (θ_run Cert.ReferenceIdeal.defs _ _).mono (fun r h c => ?_) (Cert.ReferenceIdeal.Term.run m' g')
    obtain ⟨e0, e1, e2, e3, e4⟩ := hagree c
    obtain ⟨h0, h1, h2, h3, hargs⟩ := h c
    rw [e0, e1, e2, e3, e4] at h0 h2 h3
    rw [e4] at h1
    exact ⟨h0, h1, h2, h3, hargs⟩⟩

/-- Every claim of the certificate. -/
theorem claim : Cert.Claim := ⟨Cert.Kernel.Gen.facts, Cert.KernelIdeal.Gen.facts, Cert.ReferenceIdeal.Gen.facts,
  frame_p, frame_pi, frame_ri, preserves, algebraic⟩

end Cert.Proof

end
